-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x20 : Shape := ⟨2, ![16384, 20]⟩
abbrev S1000000x32 : Shape := ⟨2, ![1000000, 32]⟩
abbrev S128x32 : Shape := ⟨2, ![128, 32]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S1000000x32 .f32) (main_arg2 : FVec F S128x32 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 1000000#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S1000000x32 : Shape := ⟨2, ![1000000, 32]⟩
abbrev S128x32 : Shape := ⟨2, ![128, 32]⟩
abbrev S327680 : Shape := ⟨1, ![327680]⟩
abbrev S_ : Shape := ⟨0, ![]⟩
abbrev S327680x1 : Shape := ⟨2, ![327680, 1]⟩
abbrev S327680x2 : Shape := ⟨2, ![327680, 2]⟩
abbrev S655360 : Shape := ⟨1, ![655360]⟩
abbrev S2000000x16 : Shape := ⟨2, ![2000000, 16]⟩
abbrev S16384x32 : Shape := ⟨2, ![16384, 32]⟩
abbrev S2560 : Shape := ⟨1, ![2560]⟩
abbrev S2560x16 : Shape := ⟨2, ![2560, 16]⟩
abbrev S512x32 : Shape := ⟨2, ![512, 32]⟩
abbrev S128x16 : Shape := ⟨2, ![128, 16]⟩
abbrev S128 : Shape := ⟨1, ![128]⟩
abbrev S1x16 : Shape := ⟨2, ![1, 16]⟩
abbrev S16 : Shape := ⟨1, ![16]⟩
abbrev S32x128 : Shape := ⟨2, ![32, 128]⟩
abbrev S16384x128 : Shape := ⟨2, ![16384, 128]⟩
abbrev S2048x32 : Shape := ⟨2, ![2048, 32]⟩
abbrev S2048x128 : Shape := ⟨2, ![2048, 128]⟩

abbrev nBuf : Table → Nat
  | .hbm => 21
  | .local .tc .vmem => 5
  | .local .scVector .vmem => 5
  | _ => 0

abbrev bufTy : (tb : Table) → Fin (nBuf tb) → BufTy
  | .hbm, ⟨0, _⟩ => ⟨S16384x20, .i32⟩
  | .hbm, ⟨1, _⟩ => ⟨S1000000x32, .f32⟩
  | .hbm, ⟨2, _⟩ => ⟨S128x32, .f32⟩
  | .hbm, ⟨3, _⟩ => ⟨S327680, .i32⟩
  | .hbm, ⟨4, _⟩ => ⟨S_, .i32⟩
  | .hbm, ⟨5, _⟩ => ⟨S327680, .i32⟩
  | .hbm, ⟨6, _⟩ => ⟨S327680, .i32⟩
  | .hbm, ⟨7, _⟩ => ⟨S_, .i32⟩
  | .hbm, ⟨8, _⟩ => ⟨S327680, .i32⟩
  | .hbm, ⟨9, _⟩ => ⟨S327680, .i32⟩
  | .hbm, ⟨10, _⟩ => ⟨S_, .i32⟩
  | .hbm, ⟨11, _⟩ => ⟨S327680, .i32⟩
  | .hbm, ⟨12, _⟩ => ⟨S327680, .i32⟩
  | .hbm, ⟨13, _⟩ => ⟨S327680x1, .i32⟩
  | .hbm, ⟨14, _⟩ => ⟨S327680x1, .i32⟩
  | .hbm, ⟨15, _⟩ => ⟨S327680x2, .i32⟩
  | .hbm, ⟨16, _⟩ => ⟨S655360, .i32⟩
  | .hbm, ⟨17, _⟩ => ⟨S2000000x16, .f32⟩
  | .hbm, ⟨18, _⟩ => ⟨S16384x32, .f32⟩
  | .hbm, ⟨19, _⟩ => ⟨S32x128, .f32⟩
  | .hbm, ⟨20, _⟩ => ⟨S16384x128, .f32⟩
  | .local .tc .vmem, ⟨0, _⟩ => ⟨S2048x32, .f32⟩
  | .local .tc .vmem, ⟨1, _⟩ => ⟨S2048x32, .f32⟩
  | .local .tc .vmem, ⟨2, _⟩ => ⟨S32x128, .f32⟩
  | .local .tc .vmem, ⟨3, _⟩ => ⟨S2048x128, .f32⟩
  | .local .tc .vmem, ⟨4, _⟩ => ⟨S2048x128, .f32⟩
  | .local .scVector .vmem, ⟨0, _⟩ => ⟨S2560, .i32⟩
  | .local .scVector .vmem, ⟨1, _⟩ => ⟨S2560, .i32⟩
  | .local .scVector .vmem, ⟨2, _⟩ => ⟨S2560x16, .f32⟩
  | .local .scVector .vmem, ⟨3, _⟩ => ⟨S2560x16, .f32⟩
  | .local .scVector .vmem, ⟨4, _⟩ => ⟨S512x32, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v10_scv : Ref sig .scVector := ⟨.hbm, 16, rfl⟩
abbrev main_v11_scv : Ref sig .scVector := ⟨.hbm, 17, rfl⟩
abbrev main_v12_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20480_i32 : BitVec 32 := 20480#32
  let v2 : BitVec 32 := Scalar.muli v1 c20480_i32
  let v3 : BitVec 32 := Scalar.addi v2 c0_i32
  ![v3.toNat]
@[reducible] def k0_t1_loop : Scf.Loop 32 :=
  let c0_i32_282 : BitVec 32 := 0#32
  let c64_i32 : BitVec 32 := 64#32
  let v185 : BitVec 32 := Scalar.addi c0_i32_282 c64_i32
  let c1_i32 : BitVec 32 := 1#32
  ⟨c0_i32_282, v185, c1_i32⟩
def k0_off2 (k0_t1 : Fin k0_t1_loop.trips) : Fin 2 → Nat :=
  let c0_i32_282 : BitVec 32 := 0#32
  let c1_i32 : BitVec 32 := 1#32
  let arg12 : BitVec 32 := Scf.iv c0_i32_282 c1_i32 k0_t1
  let c40_i32 : BitVec 32 := 40#32
  let v988 : BitVec 32 := Scalar.muli arg12 c40_i32
  let v989 : Index := Scalar.indexCast v988
  let c0 : Index := 0#32
  ![v989.toNat, 0]
def k0_off3 (k0_t1 : Fin k0_t1_loop.trips) (c1_i32_1620 : BitVec 32) : Fin 2 → Nat :=
  let c0_i32_282 : BitVec 32 := 0#32
  let c1_i32 : BitVec 32 := 1#32
  let arg12 : BitVec 32 := Scf.iv c0_i32_282 c1_i32 k0_t1
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off3_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off4 (k0_t1 : Fin k0_t1_loop.trips) (c4_i32_1626 : BitVec 32) (c1_i32_1627 : BitVec 32) : Fin 2 → Nat :=
  let c0_i32_282 : BitVec 32 := 0#32
  let c1_i32 : BitVec 32 := 1#32
  let arg12 : BitVec 32 := Scf.iv c0_i32_282 c1_i32 k0_t1
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off5 (k0_t1 : Fin k0_t1_loop.trips) : Fin 2 → Nat :=
  let c0_i32_1715 : BitVec 32 := 0#32
  let c0_i32_282 : BitVec 32 := 0#32
  let c1_i32 : BitVec 32 := 1#32
  let arg12 : BitVec 32 := Scf.iv c0_i32_282 c1_i32 k0_t1
  let v1212 : BitVec 32 := Scalar.addi c0_i32_1715 arg12
  let v1213 : Index := Scalar.indexCast v1212
  let c0_1716 : Index := 0#32
  ![v1213.toNat, 0]
def k0_off6 (k0_t1 : Fin k0_t1_loop.trips) : Fin 2 → Nat :=
  let c0_i32_1717 : BitVec 32 := 0#32
  let c0_i32_282 : BitVec 32 := 0#32
  let c1_i32 : BitVec 32 := 1#32
  let arg12 : BitVec 32 := Scf.iv c0_i32_282 c1_i32 k0_t1
  let v1218 : BitVec 32 := Scalar.addi c0_i32_1717 arg12
  let v1219 : Index := Scalar.indexCast v1218
  let c16 : Index := 16#32
  ![v1219.toNat, 16]
@[reducible] def k0_t2_loop : Scf.Loop 32 :=
  let c0_i32_485 : BitVec 32 := 0#32
  let c64_i32_486 : BitVec 32 := 64#32
  let v308 : BitVec 32 := Scalar.addi c0_i32_485 c64_i32_486
  let c1_i32_487 : BitVec 32 := 1#32
  ⟨c0_i32_485, v308, c1_i32_487⟩
def k0_off7 (k0_t2 : Fin k0_t2_loop.trips) : Fin 2 → Nat :=
  let c0_i32_485 : BitVec 32 := 0#32
  let c1_i32_487 : BitVec 32 := 1#32
  let arg12 : BitVec 32 := Scf.iv c0_i32_485 c1_i32_487 k0_t2
  let c40_i32 : BitVec 32 := 40#32
  let v988 : BitVec 32 := Scalar.muli arg12 c40_i32
  let v989 : Index := Scalar.indexCast v988
  let c0 : Index := 0#32
  ![v989.toNat, 0]
def k0_off8 (k0_t2 : Fin k0_t2_loop.trips) (c1_i32_1620 : BitVec 32) : Fin 2 → Nat :=
  let c0_i32_485 : BitVec 32 := 0#32
  let c1_i32_487 : BitVec 32 := 1#32
  let arg12 : BitVec 32 := Scf.iv c0_i32_485 c1_i32_487 k0_t2
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off8_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off9 (k0_t2 : Fin k0_t2_loop.trips) (c4_i32_1626 : BitVec 32) (c1_i32_1627 : BitVec 32) : Fin 2 → Nat :=
  let c0_i32_485 : BitVec 32 := 0#32
  let c1_i32_487 : BitVec 32 := 1#32
  let arg12 : BitVec 32 := Scf.iv c0_i32_485 c1_i32_487 k0_t2
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off10 (k0_t2 : Fin k0_t2_loop.trips) : Fin 2 → Nat :=
  let c64_i32_1715 : BitVec 32 := 64#32
  let c0_i32_485 : BitVec 32 := 0#32
  let c1_i32_487 : BitVec 32 := 1#32
  let arg12 : BitVec 32 := Scf.iv c0_i32_485 c1_i32_487 k0_t2
  let v1212 : BitVec 32 := Scalar.addi c64_i32_1715 arg12
  let v1213 : Index := Scalar.indexCast v1212
  let c0_1716 : Index := 0#32
  ![v1213.toNat, 0]
def k0_off11 (k0_t2 : Fin k0_t2_loop.trips) : Fin 2 → Nat :=
  let c64_i32_1717 : BitVec 32 := 64#32
  let c0_i32_485 : BitVec 32 := 0#32
  let c1_i32_487 : BitVec 32 := 1#32
  let arg12 : BitVec 32 := Scf.iv c0_i32_485 c1_i32_487 k0_t2
  let v1218 : BitVec 32 := Scalar.addi c64_i32_1717 arg12
  let v1219 : Index := Scalar.indexCast v1218
  let c16 : Index := 16#32
  ![v1219.toNat, 16]
@[reducible] def k0_t3_loop : Scf.Loop 32 :=
  let c0_i32_690 : BitVec 32 := 0#32
  let c64_i32_691 : BitVec 32 := 64#32
  let v431 : BitVec 32 := Scalar.addi c0_i32_690 c64_i32_691
  let c1_i32_692 : BitVec 32 := 1#32
  ⟨c0_i32_690, v431, c1_i32_692⟩
def k0_off12 (k0_t3 : Fin k0_t3_loop.trips) : Fin 2 → Nat :=
  let c0_i32_690 : BitVec 32 := 0#32
  let c1_i32_692 : BitVec 32 := 1#32
  let arg12 : BitVec 32 := Scf.iv c0_i32_690 c1_i32_692 k0_t3
  let c40_i32 : BitVec 32 := 40#32
  let v988 : BitVec 32 := Scalar.muli arg12 c40_i32
  let v989 : Index := Scalar.indexCast v988
  let c0 : Index := 0#32
  ![v989.toNat, 0]
def k0_off13 (k0_t3 : Fin k0_t3_loop.trips) (c1_i32_1620 : BitVec 32) : Fin 2 → Nat :=
  let c0_i32_690 : BitVec 32 := 0#32
  let c1_i32_692 : BitVec 32 := 1#32
  let arg12 : BitVec 32 := Scf.iv c0_i32_690 c1_i32_692 k0_t3
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off13_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off14 (k0_t3 : Fin k0_t3_loop.trips) (c4_i32_1626 : BitVec 32) (c1_i32_1627 : BitVec 32) : Fin 2 → Nat :=
  let c0_i32_690 : BitVec 32 := 0#32
  let c1_i32_692 : BitVec 32 := 1#32
  let arg12 : BitVec 32 := Scf.iv c0_i32_690 c1_i32_692 k0_t3
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off15 (k0_t3 : Fin k0_t3_loop.trips) : Fin 2 → Nat :=
  let c128_i32_1715 : BitVec 32 := 128#32
  let c0_i32_690 : BitVec 32 := 0#32
  let c1_i32_692 : BitVec 32 := 1#32
  let arg12 : BitVec 32 := Scf.iv c0_i32_690 c1_i32_692 k0_t3
  let v1212 : BitVec 32 := Scalar.addi c128_i32_1715 arg12
  let v1213 : Index := Scalar.indexCast v1212
  let c0_1716 : Index := 0#32
  ![v1213.toNat, 0]
def k0_off16 (k0_t3 : Fin k0_t3_loop.trips) : Fin 2 → Nat :=
  let c128_i32_1717 : BitVec 32 := 128#32
  let c0_i32_690 : BitVec 32 := 0#32
  let c1_i32_692 : BitVec 32 := 1#32
  let arg12 : BitVec 32 := Scf.iv c0_i32_690 c1_i32_692 k0_t3
  let v1218 : BitVec 32 := Scalar.addi c128_i32_1717 arg12
  let v1219 : Index := Scalar.indexCast v1218
  let c16 : Index := 16#32
  ![v1219.toNat, 16]
@[reducible] def k0_t4_loop : Scf.Loop 32 :=
  let c0_i32_895 : BitVec 32 := 0#32
  let c64_i32_896 : BitVec 32 := 64#32
  let v554 : BitVec 32 := Scalar.addi c0_i32_895 c64_i32_896
  let c1_i32_897 : BitVec 32 := 1#32
  ⟨c0_i32_895, v554, c1_i32_897⟩
def k0_off17 (k0_t4 : Fin k0_t4_loop.trips) : Fin 2 → Nat :=
  let c0_i32_895 : BitVec 32 := 0#32
  let c1_i32_897 : BitVec 32 := 1#32
  let arg12 : BitVec 32 := Scf.iv c0_i32_895 c1_i32_897 k0_t4
  let c40_i32 : BitVec 32 := 40#32
  let v988 : BitVec 32 := Scalar.muli arg12 c40_i32
  let v989 : Index := Scalar.indexCast v988
  let c0 : Index := 0#32
  ![v989.toNat, 0]
def k0_off18 (k0_t4 : Fin k0_t4_loop.trips) (c1_i32_1620 : BitVec 32) : Fin 2 → Nat :=
  let c0_i32_895 : BitVec 32 := 0#32
  let c1_i32_897 : BitVec 32 := 1#32
  let arg12 : BitVec 32 := Scf.iv c0_i32_895 c1_i32_897 k0_t4
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off18_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off19 (k0_t4 : Fin k0_t4_loop.trips) (c4_i32_1626 : BitVec 32) (c1_i32_1627 : BitVec 32) : Fin 2 → Nat :=
  let c0_i32_895 : BitVec 32 := 0#32
  let c1_i32_897 : BitVec 32 := 1#32
  let arg12 : BitVec 32 := Scf.iv c0_i32_895 c1_i32_897 k0_t4
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off20 (k0_t4 : Fin k0_t4_loop.trips) : Fin 2 → Nat :=
  let c192_i32 : BitVec 32 := 192#32
  let c0_i32_895 : BitVec 32 := 0#32
  let c1_i32_897 : BitVec 32 := 1#32
  let arg12 : BitVec 32 := Scf.iv c0_i32_895 c1_i32_897 k0_t4
  let v1212 : BitVec 32 := Scalar.addi c192_i32 arg12
  let v1213 : Index := Scalar.indexCast v1212
  let c0_1715 : Index := 0#32
  ![v1213.toNat, 0]
def k0_off21 (k0_t4 : Fin k0_t4_loop.trips) : Fin 2 → Nat :=
  let c192_i32_1716 : BitVec 32 := 192#32
  let c0_i32_895 : BitVec 32 := 0#32
  let c1_i32_897 : BitVec 32 := 1#32
  let arg12 : BitVec 32 := Scf.iv c0_i32_895 c1_i32_897 k0_t4
  let v1218 : BitVec 32 := Scalar.addi c192_i32_1716 arg12
  let v1219 : Index := Scalar.indexCast v1218
  let c16 : Index := 16#32
  ![v1219.toNat, 16]
@[reducible] def k0_t5_loop : Scf.Loop 32 :=
  let c0_i32_1100 : BitVec 32 := 0#32
  let c64_i32_1101 : BitVec 32 := 64#32
  let v677 : BitVec 32 := Scalar.addi c0_i32_1100 c64_i32_1101
  let c1_i32_1102 : BitVec 32 := 1#32
  ⟨c0_i32_1100, v677, c1_i32_1102⟩
def k0_off22 (k0_t5 : Fin k0_t5_loop.trips) : Fin 2 → Nat :=
  let c0_i32_1100 : BitVec 32 := 0#32
  let c1_i32_1102 : BitVec 32 := 1#32
  let arg12 : BitVec 32 := Scf.iv c0_i32_1100 c1_i32_1102 k0_t5
  let c40_i32 : BitVec 32 := 40#32
  let v988 : BitVec 32 := Scalar.muli arg12 c40_i32
  let v989 : Index := Scalar.indexCast v988
  let c0 : Index := 0#32
  ![v989.toNat, 0]
def k0_off23 (k0_t5 : Fin k0_t5_loop.trips) (c1_i32_1620 : BitVec 32) : Fin 2 → Nat :=
  let c0_i32_1100 : BitVec 32 := 0#32
  let c1_i32_1102 : BitVec 32 := 1#32
  let arg12 : BitVec 32 := Scf.iv c0_i32_1100 c1_i32_1102 k0_t5
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off23_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off24 (k0_t5 : Fin k0_t5_loop.trips) (c4_i32_1626 : BitVec 32) (c1_i32_1627 : BitVec 32) : Fin 2 → Nat :=
  let c0_i32_1100 : BitVec 32 := 0#32
  let c1_i32_1102 : BitVec 32 := 1#32
  let arg12 : BitVec 32 := Scf.iv c0_i32_1100 c1_i32_1102 k0_t5
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off25 (k0_t5 : Fin k0_t5_loop.trips) : Fin 2 → Nat :=
  let c256_i32_1715 : BitVec 32 := 256#32
  let c0_i32_1100 : BitVec 32 := 0#32
  let c1_i32_1102 : BitVec 32 := 1#32
  let arg12 : BitVec 32 := Scf.iv c0_i32_1100 c1_i32_1102 k0_t5
  let v1212 : BitVec 32 := Scalar.addi c256_i32_1715 arg12
  let v1213 : Index := Scalar.indexCast v1212
  let c0_1716 : Index := 0#32
  ![v1213.toNat, 0]
def k0_off26 (k0_t5 : Fin k0_t5_loop.trips) : Fin 2 → Nat :=
  let c256_i32_1717 : BitVec 32 := 256#32
  let c0_i32_1100 : BitVec 32 := 0#32
  let c1_i32_1102 : BitVec 32 := 1#32
  let arg12 : BitVec 32 := Scf.iv c0_i32_1100 c1_i32_1102 k0_t5
  let v1218 : BitVec 32 := Scalar.addi c256_i32_1717 arg12
  let v1219 : Index := Scalar.indexCast v1218
  let c16 : Index := 16#32
  ![v1219.toNat, 16]
@[reducible] def k0_t6_loop : Scf.Loop 32 :=
  let c0_i32_1305 : BitVec 32 := 0#32
  let c64_i32_1306 : BitVec 32 := 64#32
  let v800 : BitVec 32 := Scalar.addi c0_i32_1305 c64_i32_1306
  let c1_i32_1307 : BitVec 32 := 1#32
  ⟨c0_i32_1305, v800, c1_i32_1307⟩
def k0_off27 (k0_t6 : Fin k0_t6_loop.trips) : Fin 2 → Nat :=
  let c0_i32_1305 : BitVec 32 := 0#32
  let c1_i32_1307 : BitVec 32 := 1#32
  let arg12 : BitVec 32 := Scf.iv c0_i32_1305 c1_i32_1307 k0_t6
  let c40_i32 : BitVec 32 := 40#32
  let v988 : BitVec 32 := Scalar.muli arg12 c40_i32
  let v989 : Index := Scalar.indexCast v988
  let c0 : Index := 0#32
  ![v989.toNat, 0]
def k0_off28 (k0_t6 : Fin k0_t6_loop.trips) (c1_i32_1620 : BitVec 32) : Fin 2 → Nat :=
  let c0_i32_1305 : BitVec 32 := 0#32
  let c1_i32_1307 : BitVec 32 := 1#32
  let arg12 : BitVec 32 := Scf.iv c0_i32_1305 c1_i32_1307 k0_t6
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off28_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off29 (k0_t6 : Fin k0_t6_loop.trips) (c4_i32_1626 : BitVec 32) (c1_i32_1627 : BitVec 32) : Fin 2 → Nat :=
  let c0_i32_1305 : BitVec 32 := 0#32
  let c1_i32_1307 : BitVec 32 := 1#32
  let arg12 : BitVec 32 := Scf.iv c0_i32_1305 c1_i32_1307 k0_t6
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off30 (k0_t6 : Fin k0_t6_loop.trips) : Fin 2 → Nat :=
  let c320_i32 : BitVec 32 := 320#32
  let c0_i32_1305 : BitVec 32 := 0#32
  let c1_i32_1307 : BitVec 32 := 1#32
  let arg12 : BitVec 32 := Scf.iv c0_i32_1305 c1_i32_1307 k0_t6
  let v1212 : BitVec 32 := Scalar.addi c320_i32 arg12
  let v1213 : Index := Scalar.indexCast v1212
  let c0_1715 : Index := 0#32
  ![v1213.toNat, 0]
def k0_off31 (k0_t6 : Fin k0_t6_loop.trips) : Fin 2 → Nat :=
  let c320_i32_1716 : BitVec 32 := 320#32
  let c0_i32_1305 : BitVec 32 := 0#32
  let c1_i32_1307 : BitVec 32 := 1#32
  let arg12 : BitVec 32 := Scf.iv c0_i32_1305 c1_i32_1307 k0_t6
  let v1218 : BitVec 32 := Scalar.addi c320_i32_1716 arg12
  let v1219 : Index := Scalar.indexCast v1218
  let c16 : Index := 16#32
  ![v1219.toNat, 16]
@[reducible] def k0_t7_loop : Scf.Loop 32 :=
  let c0_i32_1510 : BitVec 32 := 0#32
  let c64_i32_1511 : BitVec 32 := 64#32
  let v923 : BitVec 32 := Scalar.addi c0_i32_1510 c64_i32_1511
  let c1_i32_1512 : BitVec 32 := 1#32
  ⟨c0_i32_1510, v923, c1_i32_1512⟩
def k0_off32 (k0_t7 : Fin k0_t7_loop.trips) : Fin 2 → Nat :=
  let c0_i32_1510 : BitVec 32 := 0#32
  let c1_i32_1512 : BitVec 32 := 1#32
  let arg12 : BitVec 32 := Scf.iv c0_i32_1510 c1_i32_1512 k0_t7
  let c40_i32 : BitVec 32 := 40#32
  let v988 : BitVec 32 := Scalar.muli arg12 c40_i32
  let v989 : Index := Scalar.indexCast v988
  let c0 : Index := 0#32
  ![v989.toNat, 0]
def k0_off33 (k0_t7 : Fin k0_t7_loop.trips) (c1_i32_1620 : BitVec 32) : Fin 2 → Nat :=
  let c0_i32_1510 : BitVec 32 := 0#32
  let c1_i32_1512 : BitVec 32 := 1#32
  let arg12 : BitVec 32 := Scf.iv c0_i32_1510 c1_i32_1512 k0_t7
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off33_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off34 (k0_t7 : Fin k0_t7_loop.trips) (c4_i32_1626 : BitVec 32) (c1_i32_1627 : BitVec 32) : Fin 2 → Nat :=
  let c0_i32_1510 : BitVec 32 := 0#32
  let c1_i32_1512 : BitVec 32 := 1#32
  let arg12 : BitVec 32 := Scf.iv c0_i32_1510 c1_i32_1512 k0_t7
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off35 (k0_t7 : Fin k0_t7_loop.trips) : Fin 2 → Nat :=
  let c384_i32_1715 : BitVec 32 := 384#32
  let c0_i32_1510 : BitVec 32 := 0#32
  let c1_i32_1512 : BitVec 32 := 1#32
  let arg12 : BitVec 32 := Scf.iv c0_i32_1510 c1_i32_1512 k0_t7
  let v1212 : BitVec 32 := Scalar.addi c384_i32_1715 arg12
  let v1213 : Index := Scalar.indexCast v1212
  let c0_1716 : Index := 0#32
  ![v1213.toNat, 0]
def k0_off36 (k0_t7 : Fin k0_t7_loop.trips) : Fin 2 → Nat :=
  let c384_i32_1717 : BitVec 32 := 384#32
  let c0_i32_1510 : BitVec 32 := 0#32
  let c1_i32_1512 : BitVec 32 := 1#32
  let arg12 : BitVec 32 := Scf.iv c0_i32_1510 c1_i32_1512 k0_t7
  let v1218 : BitVec 32 := Scalar.addi c384_i32_1717 arg12
  let v1219 : Index := Scalar.indexCast v1218
  let c16 : Index := 16#32
  ![v1219.toNat, 16]
@[reducible] def k0_t8_loop : Scf.Loop 32 :=
  let c0_i32_1615 : BitVec 32 := 0#32
  let c64_i32_1616 : BitVec 32 := 64#32
  let v985 : BitVec 32 := Scalar.addi c0_i32_1615 c64_i32_1616
  let c1_i32_1617 : BitVec 32 := 1#32
  ⟨c0_i32_1615, v985, c1_i32_1617⟩
def k0_off37 (k0_t8 : Fin k0_t8_loop.trips) : Fin 2 → Nat :=
  let c0_i32_1615 : BitVec 32 := 0#32
  let c1_i32_1617 : BitVec 32 := 1#32
  let arg12 : BitVec 32 := Scf.iv c0_i32_1615 c1_i32_1617 k0_t8
  let c40_i32 : BitVec 32 := 40#32
  let v988 : BitVec 32 := Scalar.muli arg12 c40_i32
  let v989 : Index := Scalar.indexCast v988
  let c0 : Index := 0#32
  ![v989.toNat, 0]
def k0_off38 (k0_t8 : Fin k0_t8_loop.trips) (c1_i32_1620 : BitVec 32) : Fin 2 → Nat :=
  let c0_i32_1615 : BitVec 32 := 0#32
  let c1_i32_1617 : BitVec 32 := 1#32
  let arg12 : BitVec 32 := Scf.iv c0_i32_1615 c1_i32_1617 k0_t8
  let c40_i32 : BitVec 32 := 40#32
  let v988 : BitVec 32 := Scalar.muli arg12 c40_i32
  let v992 : BitVec 32 := Scalar.addi v988 c1_i32_1620
  let v993 : Index := Scalar.indexCast v992
  let c0_1621 : Index := 0#32
  ![v993.toNat, 0]
def k0_off38_at (r : Fin 12) : BitVec 32 :=
  if r.val < 6 then
    if r.val < 3 then
      if r.val < 1 then
        1#32
      else
        if r.val < 2 then
          2#32
        else
          3#32
    else
      if r.val < 4 then
        4#32
      else
        if r.val < 5 then
          8#32
        else
          12#32
  else
    if r.val < 9 then
      if r.val < 7 then
        16#32
      else
        if r.val < 8 then
          20#32
        else
          24#32
    else
      if r.val < 10 then
        28#32
      else
        if r.val < 11 then
          32#32
        else
          36#32
def k0_off39 (k0_t8 : Fin k0_t8_loop.trips) (c4_i32_1626 : BitVec 32) (c1_i32_1627 : BitVec 32) : Fin 2 → Nat :=
  let c0_i32_1615 : BitVec 32 := 0#32
  let c1_i32_1617 : BitVec 32 := 1#32
  let arg12 : BitVec 32 := Scf.iv c0_i32_1615 c1_i32_1617 k0_t8
  let c40_i32 : BitVec 32 := 40#32
  let v988 : BitVec 32 := Scalar.muli arg12 c40_i32
  let v1009 : BitVec 32 := Scalar.addi v988 c4_i32_1626
  let v1010 : BitVec 32 := Scalar.addi v1009 c1_i32_1627
  let v1011 : Index := Scalar.indexCast v1010
  let c0_1628 : Index := 0#32
  ![v1011.toNat, 0]
def k0_off40 (k0_t8 : Fin k0_t8_loop.trips) : Fin 2 → Nat :=
  let c448_i32 : BitVec 32 := 448#32
  let c0_i32_1615 : BitVec 32 := 0#32
  let c1_i32_1617 : BitVec 32 := 1#32
  let arg12 : BitVec 32 := Scf.iv c0_i32_1615 c1_i32_1617 k0_t8
  let v1212 : BitVec 32 := Scalar.addi c448_i32 arg12
  let v1213 : Index := Scalar.indexCast v1212
  let c0_1715 : Index := 0#32
  ![v1213.toNat, 0]
def k0_off41 (k0_t8 : Fin k0_t8_loop.trips) : Fin 2 → Nat :=
  let c448_i32_1716 : BitVec 32 := 448#32
  let c0_i32_1615 : BitVec 32 := 0#32
  let c1_i32_1617 : BitVec 32 := 1#32
  let arg12 : BitVec 32 := Scf.iv c0_i32_1615 c1_i32_1617 k0_t8
  let v1218 : BitVec 32 := Scalar.addi c448_i32_1716 arg12
  let v1219 : Index := Scalar.indexCast v1218
  let c16 : Index := 16#32
  ![v1219.toNat, 16]
def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_1619 : BitVec 32 := 512#32
  let v987 : BitVec 32 := Scalar.muli v1 c512_i32_1619
  let c0_i32_1620_r8 : BitVec 32 := 0#32
  ![v987.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S1000000x32 : Shape := ⟨2, ![1000000, 32]⟩
abbrev S128x32 : Shape := ⟨2, ![128, 32]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x32 : Shape := ⟨3, ![16384, 20, 32]⟩
abbrev S16384x32 : Shape := ⟨2, ![16384, 32]⟩
abbrev S32x128 : Shape := ⟨2, ![32, 128]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S1000000x32, .f32⟩
  | .hbm, ⟨2, _⟩ => ⟨S128x32, .f32⟩
  | .hbm, ⟨3, _⟩ => ⟨S_, .i32⟩
  | .hbm, ⟨4, _⟩ => ⟨S16384x20, .i32⟩
  | .hbm, ⟨5, _⟩ => ⟨S16384x20, .i1⟩
  | .hbm, ⟨6, _⟩ => ⟨S_, .i32⟩
  | .hbm, ⟨7, _⟩ => ⟨S16384x20, .i32⟩
  | .hbm, ⟨8, _⟩ => ⟨S16384x20, .i32⟩
  | .hbm, ⟨9, _⟩ => ⟨S16384x20, .i32⟩
  | .hbm, ⟨10, _⟩ => ⟨S16384x20x1, .i32⟩
  | .hbm, ⟨11, _⟩ => ⟨S1, .i32⟩
  | .hbm, ⟨12, _⟩ => ⟨S_, .i32⟩
  | .hbm, ⟨13, _⟩ => ⟨S16384x20x1, .i32⟩
  | .hbm, ⟨14, _⟩ => ⟨S16384x20x1, .i1⟩
  | .hbm, ⟨15, _⟩ => ⟨S1x1x1, .i32⟩
  | .hbm, ⟨16, _⟩ => ⟨S16384x20x1, .i32⟩
  | .hbm, ⟨17, _⟩ => ⟨S16384x20x1, .i1⟩
  | .hbm, ⟨18, _⟩ => ⟨S16384x20x1, .i1⟩
  | .hbm, ⟨19, _⟩ => ⟨S_, .i1⟩
  | .hbm, ⟨20, _⟩ => ⟨S16384x20, .i1⟩
  | .hbm, ⟨21, _⟩ => ⟨S16384x20x32, .f32⟩
  | .hbm, ⟨22, _⟩ => ⟨S16384x20x32, .i1⟩
  | .hbm, ⟨23, _⟩ => ⟨S_, .f32⟩
  | .hbm, ⟨24, _⟩ => ⟨S16384x20x32, .f32⟩
  | .hbm, ⟨25, _⟩ => ⟨S16384x20x32, .f32⟩
  | .hbm, ⟨26, _⟩ => ⟨S_, .f32⟩
  | .hbm, ⟨27, _⟩ => ⟨S16384x32, .f32⟩
  | .hbm, ⟨28, _⟩ => ⟨S32x128, .f32⟩
  | .hbm, ⟨29, _⟩ => ⟨S16384x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Program.lean ====
/-
  The SparseCore kernel's tile program, said by its structure: the start of a chunk (its index list copied in, its
  twenty gathers issued), the twenty waits, the pooling loop of a chunk, the write-out. The printed program is these in
  order; the equality is by unfolding, up to where the printed text groups its statements.
-/
module

public import proofs.«01_k».proof.Proof.Gen.KernelIdeal

@[expose] public section

noncomputable section

namespace Cert.Proof.Pool

open Idealize.ShloMosaic Idealize.SL.Sem
open Cert.KernelIdeal Cert.KernelIdeal.Gen

variable {F : FTy → Type} [FloatOps F]

/-- The programs of the kernel's tile at grid point `i`. -/
abbrev TProg (F : FTy → Type) (i : grid0.Coords) (α : Type) : Type 1 :=
  Prog (TpuEff nD τ sig (Elt F) Λ₀ (.scVector ((i 0).castLE hcore0) ((i 1).castLE hsub0))) α

theorem rowsInb (k : Nat) (h : k < 20) : ∀ a, (![128 * k, 0] : Fin 2 → Nat) a + S128x16.size a ≤ S2560x16.size a := by
  intro a; fin_cases a
  · show 128 * k + 128 ≤ 2560; omega
  · show 0 + 16 ≤ 16; omega

theorem listInb (k : Nat) (h : k < 20) : ∀ a, (![128 * k] : Fin 1 → Nat) a + S128.size a ≤ S2560.size a := by
  intro a; fin_cases a; show 128 * k + 128 ≤ 2560; omega

/-- The rows gather `k` of a chunk fills, in the chunk's row buffer. -/
abbrev rowsOf (rb : Memref sig .scVector .vmem S2560x16 .f32) (k : Nat) (h : k < 20) : Memref sig .scVector .vmem S128x16 .f32 :=
  rb.slice (Rect.unit (s := S2560x16) ![128 * k, 0] S128x16.size (rowsInb k h)) (fun _ => rfl)

/-- The part of the chunk's index list gather `k` reads. -/
abbrev listOf (ib : Memref sig .scVector .vmem S2560 .i32) (k : Nat) (h : k < 20) : Memref sig .scVector .vmem S128 .i32 :=
  ib.slice (Rect.unit (s := S2560) ![128 * k] S128.size (listInb k h)) (fun _ => rfl)

/-- The table, as a gather names it. -/
abbrev tableOf (tb : Memref sig .scVector .hbm S2000000x16 .f32) : Memref sig .scVector .hbm S2000000x16 .f32 :=
  tb.slice (Rect.unit (s := S2000000x16) ![0, 0] S2000000x16.size inb_S2000000x16_S2000000x16_0_0) (fun _ => rfl)

section Pieces

variable (i : grid0.Coords) (xs : Memref sig .scVector .hbm S655360 .i32) (tb : Memref sig .scVector .hbm S2000000x16 .f32)
variable (ib : Memref sig .scVector .vmem S2560 .i32) (hib : ib.IsWhole) (rb : Memref sig .scVector .vmem S2560x16 .f32)
variable (pv : Memref sig .scVector .vmem S512x32 .f32)
variable (sem : DmaSems sig S_)

/-- Gathers `k`, …, `k + n - 1` of a chunk, issued in order. -/
def gathers (k n : Nat) (h : k + n ≤ 20) : TProg F i PUnit :=
  match n with
  | 0 => pure ⟨⟩
  | n + 1 => do
    SparseCore.enqueueIndirectGather rfl (tableOf tb) (rowsOf rb k (by omega)) gathers_S2000000x16_S128x16 (listOf ib k (by omega)) rfl sem.sem
      (View.wordExact_bits rfl) rfl (Or.inl rfl)
    gathers (k + 1) n (by omega)

/-- The waits for gathers `k`, …, `k + n - 1`. -/
def gatherWaits (k n : Nat) (h : k + n ≤ 20) : TProg F i PUnit :=
  match n with
  | 0 => pure ⟨⟩
  | n + 1 => do
    SparseCore.waitIndirectGather sem.sem (tableOf tb) (rowsOf rb k (by omega)) (View.wordExact_bits rfl) (View.wordExact_bits rfl)
    gatherWaits (k + 1) n (by omega)

/-- The part of the whole index array chunk `c` of the tile reads. -/
abbrev listAt (c : Fin 8) : Memref sig .scVector .hbm S2560 .i32 :=
  xs.slice (Rect.unit (s := S655360) (k0_off1 i (BitVec.ofNat 32 (2560 * c.val))) S2560.size (k0_off1_inb i c)) (fun _ => rfl)

/-- Chunk `c`'s index list copied in. -/
def listCopy (c : Fin 8) (s : DmaSems sig S_) : TProg F i PUnit := do
  Prog.lift (.enqueueDma (listAt i xs c) (.here ib) (.dma s.sem) (View.wordExact_bits rfl) hib.wordExact ⟨Or.inl rfl, trivial⟩)
  Prog.lift (.waitDma2 s.sem (listAt i xs c) ib (View.wordExact_bits rfl) hib.wordExact)

/-! ### The pooling loop -/

/-- The row of the row buffer that step `m`, lane group `k` of bag `t` reads, as the program computes it. -/
def rowOff (t : Fin k0_t1_loop.trips) (m k : Nat) : Fin 2 → Nat :=
  match m, k with
  | 0, 0 => k0_off2 t
  | 0, k + 1 => k0_off3 t (BitVec.ofNat 32 (k + 1))
  | m + 1, 0 => k0_off3 t (BitVec.ofNat 32 (4 * (m + 1)))
  | m + 1, k + 1 => k0_off4 t (BitVec.ofNat 32 (4 * (m + 1))) (BitVec.ofNat 32 (k + 1))

/-- The row of the pooled buffer bag `t` of the chunk whose first bag is `w` is stored at, and its first lane. -/
def outOff (w : BitVec 32) (t : Fin k0_t1_loop.trips) (l : Nat) : Fin 2 → Nat :=
  ![(Scalar.indexCast (Scalar.addi w (Scf.iv 0#32 1#32 t))).toNat, l]

theorem rowOff_eq : ∀ (t : Fin k0_t1_loop.trips) (m : Fin 10) (k : Fin 4), rowOff t m.val k.val = ![40 * t.val + 4 * m.val + k.val, 0] := by
  decide +kernel

theorem trips_eq : k0_t1_loop.trips = 64 := by decide

theorem rowOff_inb (t : Fin k0_t1_loop.trips) (m k : Nat) (hm : m < 10) (hk : k < 4) :
    ∀ a, rowOff t m k a + S1x16.size a ≤ S2560x16.size a := by
  have ht : t.val < 64 := trips_eq ▸ t.isLt
  rw [rowOff_eq t ⟨m, hm⟩ ⟨k, hk⟩]
  intro a; fin_cases a
  · show 40 * t.val + 4 * m + k + 1 ≤ 2560; omega
  · show 0 + 16 ≤ 16; omega

theorem outOff_eq : ∀ (c : Fin 8) (t : Fin k0_t1_loop.trips), outOff (BitVec.ofNat 32 (64 * c.val)) t 0 = ![64 * c.val + t.val, 0]
    ∧ outOff (BitVec.ofNat 32 (64 * c.val)) t 16 = ![64 * c.val + t.val, 16] := by
  decide +kernel

theorem outOff_inb0 (c : Fin 8) (t : Fin k0_t1_loop.trips) :
    ∀ a, outOff (BitVec.ofNat 32 (64 * c.val)) t 0 a + S1x16.size a ≤ S512x32.size a := by
  have ht : t.val < 64 := trips_eq ▸ t.isLt
  have hc := c.isLt
  rw [(outOff_eq c t).1]
  intro a; fin_cases a
  · show 64 * c.val + t.val + 1 ≤ 512; omega
  · show 0 + 16 ≤ 32; omega

theorem outOff_inb16 (c : Fin 8) (t : Fin k0_t1_loop.trips) :
    ∀ a, outOff (BitVec.ofNat 32 (64 * c.val)) t 16 a + S1x16.size a ≤ S512x32.size a := by
  have ht : t.val < 64 := trips_eq ▸ t.isLt
  have hc := c.isLt
  rw [(outOff_eq c t).2]
  intro a; fin_cases a
  · show 64 * c.val + t.val + 1 ≤ 512; omega
  · show 16 + 16 ≤ 32; omega

/-- One row of the row buffer, read. -/
def ldRow (t : Fin k0_t1_loop.trips) (m k : Nat) (hm : m < 10) (hk : k < 4) : TProg F i (Vec F S1x16 .f32) :=
  Prog.lift (.load rb (Rect.unit (s := S2560x16) (rowOff t m k) S1x16.size (rowOff_inb t m k hm hk)).toLoadRect (View.loadsAt_vmem h_S1x16))

/-- A row as sixteen lanes. -/
abbrev lanes (y : Vec F S1x16 .f32) : FVec F S16 .f32 := shapeCast S16 y shapeCasts_S1x16_S16

/-- Steps `m`, …, `m + n - 1` of one bag's sum: four rows read and added to the four accumulators. -/
def poolSteps (t : Fin k0_t1_loop.trips) (m n : Nat) (h : m + n ≤ 10) (a b c d : FVec F S16 .f32) :
    TProg F i (FVec F S16 .f32 × FVec F S16 .f32 × FVec F S16 .f32 × FVec F S16 .f32) :=
  match n with
  | 0 => pure (a, b, c, d)
  | n + 1 => do
    let y0 ← ldRow i rb t m 0 (by omega) (by omega)
    let y1 ← ldRow i rb t m 1 (by omega) (by omega)
    let y2 ← ldRow i rb t m 2 (by omega) (by omega)
    let y3 ← ldRow i rb t m 3 (by omega) (by omega)
    poolSteps t (m + 1) n (by omega) (addf a (lanes y0)) (addf b (lanes y1)) (addf c (lanes y2)) (addf d (lanes y3))

/-- Sixteen lanes stored at a row of the pooled buffer, which the program first reads and does not use. -/
def stRow (off : Fin 2 → Nat) (hoff : ∀ a, off a + S1x16.size a ≤ S512x32.size a) (x : FVec F S16 .f32) : TProg F i PUnit := do
  let _ ← Prog.lift (.load pv (Rect.unit (s := S512x32) off S1x16.size hoff).toLoadRect (View.loadsAt_vmem h_S1x16))
  Prog.lift (.store pv (Rect.unit (s := S512x32) off S1x16.size hoff) (shapeCast S1x16 x shapeCasts_S16_S1x16) Finset.univ
    (View.stores_vmem_bits_univ h_S1x16 rfl) (.inl rfl))

/-- One bag: its forty half rows summed in four accumulators, the two halves of the sum stored. -/
def poolBag (c : Fin 8) (t : Fin k0_t1_loop.trips) : TProg F i (BitVec 32) := do
  let x0 ← ldRow i rb t 0 0 (by omega) (by omega)
  let x1 ← ldRow i rb t 0 1 (by omega) (by omega)
  let x2 ← ldRow i rb t 0 2 (by omega) (by omega)
  let x3 ← ldRow i rb t 0 3 (by omega) (by omega)
  let r ← poolSteps i rb t 1 9 (by omega) (lanes x0) (lanes x1) (lanes x2) (lanes x3)
  stRow i pv (outOff (BitVec.ofNat 32 (64 * c.val)) t 0) (outOff_inb0 c t) (addf r.1 r.2.2.1)
  stRow i pv (outOff (BitVec.ofNat 32 (64 * c.val)) t 16) (outOff_inb16 c t) (addf r.2.1 r.2.2.2)
  pure 0#32

/-- The chunk's sixty-four bags, in order. -/
def poolLoop (c : Fin 8) : TProg F i (BitVec 32) :=
  Scf.Loop.for k0_t1_loop k0_t1_ok 0#32 fun t _ => poolBag i rb pv c t

/-- The pooled rows written out to the tile's block. -/
def writeOut (po : Memref sig .scVector .hbm S16384x32 .f32) (hpv : pv.IsWhole) (s : DmaSems sig S_) : TProg F i PUnit := do
  Prog.lift (.enqueueDma pv (.here (po.slice (Rect.unit (s := S16384x32) (k0_off42 i) S512x32.size (k0_off42_inb i)) (fun _ => rfl))) (.dma s.sem)
    hpv.wordExact (View.wordExact_bits rfl) ⟨Or.inl rfl, trivial⟩)
  Prog.lift (.waitDma2 s.sem pv (po.slice (Rect.unit (s := S16384x32) (k0_off42 i) S512x32.size (k0_off42_inb i)) (fun _ => rfl))
    hpv.wordExact (View.wordExact_bits rfl))

end Pieces

end Cert.Proof.Pool

end
-- ==== Proof.GatherBatch.lean ====
/-
  Several indirect gathers outstanding on ONE DMA semaphore. Each gather moves one row per entry of its list, every row
  a transfer of its own on the cell; the rows of all the gathers together are one recorded batch
  (`Transfers.Batch`), every row crediting the same amount. Here: what one row delivers, the issue of one gather as the
  next run of rows of such a batch, and the rows of one gather joined back.
-/
module

public import Idealize.ShloMosaic.Lib.SparseCore.Stream
public import Idealize.ShloMosaic.Lib.SparseCore.Ops
public import Idealize.ShloMosaic.Lib.Batch

@[expose] public section

noncomputable section

namespace Cert.Proof.GatherBatch

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## The issue rights of a run of transfers -/

/-- The rights still pending from `k` on are those of the next `o` and those pending from `k + o` on. -/
theorem pending_run {n : ℕ} (Φ : Fin n → sProp 𝕄) (o : ℕ) :
    ∀ (k : ℕ) (h : k + o ≤ n),
      bigSep (pending k) Φ = iprop((bigSep Finset.univ fun j : Fin o => Φ ⟨k + j.val, by omega⟩) ∗ bigSep (pending (k + o)) Φ) := by
  induction o with
  | zero =>
    intro k h
    rw [show (Finset.univ : Finset (Fin 0)) = ∅ from rfl, bigSep_empty]
    exact (equiv_iff.mp BI.emp_sep).symm
  | succ o ih =>
    intro k h
    rw [bigSep_pending_step Φ k (by omega), ih (k + 1) (by omega),
      bigSep_univ_equiv (finSumFinEquiv.trans (finCongr (Nat.add_comm 1 o))) (fun j : Fin (o + 1) => Φ ⟨k + j.val, by omega⟩),
      bigSep_univ_sum, bigSep_univ_of_subsingleton (0 : Fin 1)]
    have e : (bigSep Finset.univ fun j : Fin o => Φ ⟨k + 1 + j.val, by omega⟩)
        = bigSep Finset.univ fun j : Fin o => Φ ⟨k + ((finSumFinEquiv.trans (finCongr (Nat.add_comm 1 o))) (Sum.inr j)).val, by
            have := ((finSumFinEquiv.trans (finCongr (Nat.add_comm 1 o))) (Sum.inr j)).isLt; omega⟩ :=
      bigSep_congr fun j _ => congrArg Φ (Fin.ext (by simp; omega))
    rw [e, show k + 1 + o = k + (o + 1) by omega]
    exact (equiv_iff.mp ⟨BI.sep_assoc, BI.sep_assoc'⟩).symm

/-! ## One gather's rows -/

section Rows

variable (c : Thread nD τ) {sp : Space} {s₀ s si : Shape} {e : EltTy} {a : Nat}

/-- Entry `j` of an offset list, as an index of the list. -/
def entryOf {o : ℕ} (hn : si.numel = o) (j : Fin o) : si.Idx := si.rowMajor.symm (j.cast hn.symm)

/-- The values row `j` of a gather moves: the source row its entry names. -/
def rowW (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- What row `j` of a gather delivers: that row of the destination written with the source row its entry names, the
    entry's share of the list, and the row's piece of the source's share. -/
def rowGives (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (rowW c src hg offs hn fs fo hin j) Finset.univ))
      ∗ (offs.view.loc c ↦[{offs.view.emb (entryOf hn j)}]{qo} fo))
    ∗ (src.view.loc c ↦[src.view.set]{pieceOf q _ ho j} fs))

instance rowGives_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowGives (Ix := Ix) (Name := Name) (U := U) (Lvl := Lvl) c src dst hg offs hn ho q qo fs fd fo hin j) := by
  unfold rowGives; infer_instance

theorem entryOf_bijective {o : ℕ} (hn : si.numel = o) : Function.Bijective (entryOf (si := si) hn) :=
  si.rowMajor.symm.bijective.comp (finCongr hn.symm).bijective

/-- All the rows of one gather together: the destination written with the gather's payload, the source's share and the
    list's share whole again. -/
theorem rowGives_join (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (fun j => rowGives c src dst hg offs hn ho q qo fs fd fo hin j)
      ⊢ (iprop((dst.view.loc c ↦[dst.view.set]{fullShare}
                (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo)) : sProp 𝕄) := by
  unfold rowGives
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply (pointsTo_rows_write c dst.view hg.axis' fd
      (fun j => rowW c src hg offs hn fs fo hin j)
      (gatherPayload hg (src.view.read (Elt F) fs) (rows (offs.view.read (Elt F) fo) hn hin)) (fun j i => by
        unfold gatherPayload rowW; rw [Shape.Gathers.idx_rowRect_emb])) $$ Hrows
  isplitl [Hsrc]
  · iapply (Entails.of_eq (pointsTo_piecesOf (src.view.set) fs ho q).symm) $$ Hsrc
  · iapply (Entails.of_eq (pointsTo_entries c offs.view (entryOf hn) (entryOf_bijective hn) qo fo).symm) $$ Hoffs

end Rows

/-! ## The issue of one gather -/

section Issue

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- An indirect gather issued as the rows `k₀ …` of a recorded batch: holding shares of the source and of the list and
    the destination outright, the list's words all in range, the batch continues with this gather's rows issued too. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n : ℕ} (N k₀ u : ℕ) (D : Fin n → sProp 𝕄)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k₀ + s.size hg.axis' ≤ n) (hu : u ≤ k₀ * N)
    (hD : ∀ j : Fin (s.size hg.axis'), rowGives c src dst hg offs hn ho q qo fs fd fo hin j ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hsum : ∑ j, (rd j).dst.view.dmaCredit = s.size hg.axis' * N :=
    sum_rowCredit_eq (K := N) (fun j => (rd j).dst.view.dmaCredit) (fun j => hN j) rfl
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  unfold Batch
  iintro ⟨Hs, Hd, Ho, %γ, %γ₀, %κ, #Hinv, HI, H0, Hcred⟩ Hk
  ihave HI' := (Entails.of_eq (pending_run (fun t : Fin n => (count EC (γ t) 0 : sProp 𝕄)) (s.size hg.axis') k₀ hk)) $$ HI
  icases HI' with ⟨Hγ, HI⟩
  ihave Hd' := (Entails.of_eq (pointsTo_rows c dst.view hg.axis' fullShare fd)) $$ Hd
  ihave Ho' := (Entails.of_eq (pointsTo_entries c offs.view (entryOf hn) (entryOf_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ (offs.view.loc c ↦[{offs.view.emb (entryOf hn j)}]{qo} fo))
          ∗ (src.view.loc c ↦[src.view.set]{pieceOf q _ ho j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd (rowW c src hg offs hn fs fo hin j) Finset.univ))
        ∗ (offs.view.loc c ↦[{offs.view.emb (entryOf hn j)}]{qo} fo))
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (g := (c, SemLoc.dma sem)) (N := N) (γ := γ) (γ₀ := γ₀) (ι := κ) (D := D)
          (⟨k₀ + j.val, by omega⟩ : Fin n) (hD j)
        have hcr : (rd j).dst.view.dmaCredit = N := hN j
        have hcu' : iprop(inv κ (batchBody EC (c, SemLoc.dma sem) N D γ γ₀) ∗ count EC (γ ⟨k₀ + j.val, by omega⟩) 0)
            ⊢ creditUpdate (c, SemLoc.dma sem) ((rd j).dst.view.amount (SemLoc.dma sem)) 0
                iprop(((dst.view.loc c ↦[(dst.view.slice (s.rowRect hg.axis' j)).set]{fullShare}
          ((dst.view.slice (s.rowRect hg.axis' j)).write (Elt F) fd (rowW c src hg offs hn fs fo hin j) Finset.univ))
        ∗ (offs.view.loc c ↦[{offs.view.emb (entryOf hn j)}]{qo} fo))
        ∗ ((rd j).src.view.loc c ↦[(rd j).src.view.set]{pieceOf q _ ho j} fs)) := by
          change _ ⊢ creditUpdate _ (rd j).dst.view.dmaCredit _ _
          rw [hcr]; exact hcu
        iapply hcu'
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    icombine Hcred Hcred' as H
    iexact H

end Issue

end Cert.Proof.GatherBatch

end
-- ==== Proof.Chunk.lean ====
/-
  One chunk's gathers: twenty indirect gathers issued on one semaphore and waited for with twenty waits, as one recorded
  batch of 2560 rows.
-/
module

public import proofs.«01_k».proof.Proof.Program
public import proofs.«01_k».proof.Proof.GatherBatch
public import Idealize.ShloMosaic.Lib.Memref
public import Idealize.ShloMosaic.Lib.ValueIdxCore

@[expose] public section

noncomputable section

namespace Cert.Proof.Pool

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.GatherBatch

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The parts of the chunk's buffers -/

/-- The rectangle of rows gather `k` fills. -/
abbrev rowsRect (k : Fin 20) : Rect S2560x16 := Rect.unit (s := S2560x16) ![128 * k.val, 0] S128x16.size (rowsInb k.val k.isLt)

/-- The entries of the list gather `k` reads. -/
abbrev listRect (k : Fin 20) : Rect S2560 := Rect.unit (s := S2560) ![128 * k.val] S128.size (listInb k.val k.isLt)

theorem rowsRect_disjoint (k k' : Fin 20) (h : k ≠ k') : Disjoint (rowsRect k).set (rowsRect k').set := by
  refine Finset.disjoint_left.mpr fun x hx hx' => h (Fin.ext ?_)
  have h1 : 128 * k.val ≤ (x 0).val ∧ (x 0).val < 128 * k.val + 128 := Rect.mem_set_unit.mp hx 0
  have h2 : 128 * k'.val ≤ (x 0).val ∧ (x 0).val < 128 * k'.val + 128 := Rect.mem_set_unit.mp hx' 0
  omega

theorem rowsRect_cover : (Finset.univ : Finset (Fin 20)).biUnion (fun k => (rowsRect k).set) = Finset.univ := by
  refine Finset.eq_univ_of_forall fun x => Finset.mem_biUnion.mpr ?_
  have h0 : (x 0).val < 2560 := (x 0).isLt
  have h1 : (x 1).val < 16 := (x 1).isLt
  refine ⟨⟨(x 0).val / 128, by omega⟩, Finset.mem_univ _, Rect.mem_set_unit.mpr fun a => ?_⟩
  fin_cases a
  · show 128 * ((x 0).val / 128) ≤ (x 0).val ∧ (x 0).val < 128 * ((x 0).val / 128) + 128; omega
  · show 0 ≤ (x 1).val ∧ (x 1).val < 0 + 16; omega

theorem listRect_disjoint (k k' : Fin 20) (h : k ≠ k') : Disjoint (listRect k).set (listRect k').set := by
  refine Finset.disjoint_left.mpr fun x hx hx' => h (Fin.ext ?_)
  have h1 : 128 * k.val ≤ (x 0).val ∧ (x 0).val < 128 * k.val + 128 := Rect.mem_set_unit.mp hx 0
  have h2 : 128 * k'.val ≤ (x 0).val ∧ (x 0).val < 128 * k'.val + 128 := Rect.mem_set_unit.mp hx' 0
  omega

theorem listRect_cover : (Finset.univ : Finset (Fin 20)).biUnion (fun k => (listRect k).set) = Finset.univ := by
  refine Finset.eq_univ_of_forall fun x => Finset.mem_biUnion.mpr ?_
  have h0 : (x 0).val < 2560 := (x 0).isLt
  refine ⟨⟨(x 0).val / 128, by omega⟩, Finset.mem_univ _, Rect.mem_set_unit.mpr fun a => ?_⟩
  fin_cases a
  show 128 * ((x 0).val / 128) ≤ (x 0).val ∧ (x 0).val < 128 * ((x 0).val / 128) + 128; omega

theorem tableOf_set (tb : Memref sig .scVector .hbm S2000000x16 .f32) : (tableOf tb).view.set = tb.view.set := by
  have h : (Rect.unit (s := S2000000x16) ![0, 0] S2000000x16.size inb_S2000000x16_S2000000x16_0_0).set = Finset.univ :=
    Finset.eq_univ_of_forall fun x => Rect.mem_set_unit.mpr fun a => ⟨by fin_cases a <;> exact Nat.zero_le _, by
      have := (x a).isLt; fin_cases a <;> simpa using this⟩
  show (tb.view.slice _).set = _
  rw [View.set_slice, h, View.set]

/-! ## What one row of the chunk delivers -/

variable (i : grid0.Coords) (d : Dev nD)

/-- The tile at grid point `i` of device `d`. -/
abbrev Tile : Thread nD τ := (d, .scVector ((i 0).castLE hcore0) ((i 1).castLE hsub0))

abbrev HG : S2000000x16.Gathers 0 S128x16 := gathers_S2000000x16_S128x16

variable (tb : Memref sig .scVector .hbm S2000000x16 .f32) (ib : Memref sig .scVector .vmem S2560 .i32) (rb : Memref sig .scVector .vmem S2560x16 .f32)
variable (sem : DmaSems sig S_) (q : PosShare TreeShare)
variable (fs : Buf (Elt F) (tb.view.loc (Tile i d))) (fd : Buf (Elt F) (rb.view.loc (Tile i d))) (fo : Buf (Elt F) (ib.view.loc (Tile i d)))

/-- Every word of the list is the number of a row of the table. -/
def ListOK : Prop := ∀ k : Fin 20, ∀ x, ((listOf ib k.val k.isLt).view.read (Elt F) fo x).toNat < S2000000x16.size HG.axis

variable (hin : ListOK i d ib fo)

/-- What row `j` of gather `k` delivers. -/
def rowDelivers (k : Fin 20) (j : Fin 128) : sProp 𝕄 :=
  rowGives (Tile i d) (tableOf tb) (rowsOf rb k.val k.isLt) HG (listOf ib k.val k.isLt) rfl (by decide)
    (pieceOf q 20 (by decide) k) fullShare fs fd fo (hin k) j

/-- What row `t` of the chunk delivers. -/
def chunkDelivers (t : Fin 2560) : sProp 𝕄 :=
  rowDelivers i d tb ib rb q fs fd fo hin ⟨t.val / 128, by omega⟩ ⟨t.val % 128, by omega⟩

instance chunkDelivers_storable (t : Fin 2560) :
    Storable (upEmb : UEmb _ 𝕄) (chunkDelivers (Ix := Ix) (Name := Name) (U := U) (Lvl := Lvl) i d tb ib rb q fs fd fo hin t) :=
  rowGives_storable ..

theorem chunkDelivers_at (k : Fin 20) (j : Fin 128) (h : 128 * k.val + j.val < 2560) :
    chunkDelivers (Ix := Ix) (Name := Name) (U := U) (Lvl := Lvl) i d tb ib rb q fs fd fo hin ⟨128 * k.val + j.val, h⟩
      = rowDelivers i d tb ib rb q fs fd fo hin k j := by
  unfold chunkDelivers
  congr 1 <;> apply Fin.ext <;> simp only <;> omega

/-- What gather `k` is issued with: its share of the table, its rows, its part of the list. -/
def gatherNeeds (k : Fin 20) : sProp 𝕄 :=
  iprop((tb.view.loc (Tile i d) ↦[(tableOf tb).view.set]{pieceOf q 20 (by decide) k} fs)
    ∗ (rb.view.loc (Tile i d) ↦[(rowsOf rb k.val k.isLt).view.set]{fullShare} fd)
    ∗ (ib.view.loc (Tile i d) ↦[(listOf ib k.val k.isLt).view.set]{fullShare} fo))

/-! ## The issues and the waits -/

variable {defs : Defs nD τ sig (Elt F) Λ₀} (EC : UEmb Counters (MT nD τ sig Ix (Elt F) Name U Lvl)) (𝒱 : Variants) (bd : Option 𝒱.V) (ι : Ix)
variable {α : Type} {Q : α → sProp (MT nD τ sig Ix (Elt F) Name U Lvl)}

/-- The chunk's batch with the first `k` gathers issued and `u` units waited for. -/
abbrev ChunkBatch (k u : ℕ) : sProp 𝕄 :=
  Batch EC (Tile i d) (.dma sem.sem) ι 512 (chunkDelivers i d tb ib rb q fs fd fo hin) k u

/-- Every element of the row buffer credits its bits. -/
abbrev RowCredit : Prop := ∀ s' : Shape, sig.dmaCredit .scVector (Kind.scVector.table .vmem) rb.view.buf s' .f32 = s'.numel * 32

theorem wp_gathers [Infinite Name] [EC.LandsIn (upEmb : UEmb _ 𝕄)] (hcr : RowCredit rb) (n : ℕ) :
    ∀ (k : ℕ) (h : k + n ≤ 20) (kk : PUnit → TProg F i α),
      iprop(bigSep (pending k) (gatherNeeds (Ix := Ix) (Name := Name) (U := U) (Lvl := Lvl) i d tb ib rb q fs fd fo)
          ∗ ChunkBatch i d tb ib rb sem q fs fd fo hin EC ι (128 * k) 0)
        ⊢ iprop((iprop(bigSep (pending (k + n)) (gatherNeeds (Ix := Ix) (Name := Name) (U := U) (Lvl := Lvl) i d tb ib rb q fs fd fo)
              ∗ ChunkBatch i d tb ib rb sem q fs fd fo hin EC ι (128 * (k + n)) 0) -∗ wp frame (wpE defs 𝒱 (Tile i d) bd) Set.univ (kk ⟨⟩) Q)
            -∗ wp frame (wpE defs 𝒱 (Tile i d) bd) Set.univ (gathers i tb ib rb sem k n h >>= kk) Q) := by
  induction n with
  | zero =>
    intro k h kk
    iintro H Hk
    iapply Hk
    iexact H
  | succ n ih =>
    intro k h kk
    have hk : k < 20 := by omega
    rw [bigSep_pending_step _ k hk, gathers, bind_assoc]
    iintro ⟨⟨Hn, HP⟩, HB⟩ Hk
    unfold gatherNeeds
    icases Hn with ⟨Hs, Hd, Ho⟩
    iapply (wp_gatherBatch EC 𝒱 (Tile i d) bd (src := tableOf tb) (dst := rowsOf rb k hk) (hg := HG)
        (offs := listOf ib k hk) (hn := rfl) ι 512 (128 * k) 0 (chunkDelivers i d tb ib rb q fs fd fo hin)
        (q := pieceOf q 20 (by decide) ⟨k, hk⟩) (qo := fullShare) (fs := fs) (fd := fd) (fo := fo)
        (fun j => (hcr _).trans rfl) (by decide) (hin ⟨k, hk⟩) (show 128 * k + 128 ≤ 2560 by omega) (Nat.zero_le _)
        (fun j => Entails.of_eq (chunkDelivers_at i d tb ib rb q fs fd fo hin ⟨k, hk⟩ j _).symm)) $$ [Hs Hd Ho HB]
    · isplitl [Hs]; · iexact Hs
      isplitl [Hd]; · iexact Hd
      isplitl [Ho]; · iexact Ho
      iexact HB
    iintro HB
    iapply (ih (k + 1) _ kk) $$ [HP HB]
    · isplitl [HP]; · iexact HP
      iexact HB
    rw [show k + 1 + n = k + (n + 1) by omega]
    iexact Hk

/-- What the tile owes, with some waits at `ι` recorded besides those of `W`. -/
def OwesMore (O : CellTallies nD τ sig Ix) (W : Waits sig Ix) : sProp 𝕄 :=
  iprop(∃ W', ⌜∀ p ∈ W', p ∈ W ∨ p.2 = ι⌝ ∗ owes (Tile i d) O W')

variable {O : CellTallies nD τ sig Ix} {W : Waits sig Ix}

theorem OwesMore.intro : (owes (Tile i d) O W : sProp 𝕄) ⊢ OwesMore i d ι O W := by
  unfold OwesMore
  iintro H; iexists W; isplitr
  · ipureintro; exact fun p hp => Or.inl hp
  · iexact H

theorem OwesMore.add (sm : SemLoc sig) {W' : Waits sig Ix} (hW : ∀ p ∈ W', p ∈ W ∨ p.2 = ι) :
    (owes (Tile i d) O (insert (sm, ι) W') : sProp 𝕄) ⊢ OwesMore i d ι O W := by
  unfold OwesMore
  iintro H; iexists (insert (sm, ι) W'); isplitr
  · ipureintro
    intro p hp
    rcases Finset.mem_insert.mp hp with h | hp
    · exact Or.inr (congrArg Prod.snd h)
    · exact hW p hp
  · iexact H

/-- Gathers `0 … k - 1` of the chunk whose list is `Lv` issued, the others' buffers in hand. -/
def Issuing (Lv : S2560.Idx → BitVec 32) (k : ℕ) : sProp 𝕄 :=
  iprop(∃ fd fo, ∃ hin : ListOK i d ib fo, ⌜ib.view.read (Elt F) fo = Lv⌝
    ∗ bigSep (pending k) (gatherNeeds (Ix := Ix) (Name := Name) (U := U) (Lvl := Lvl) i d tb ib rb q fs fd fo)
    ∗ ChunkBatch i d tb ib rb sem q fs fd fo hin EC ι (128 * k) 0)

/-- Every gather of the chunk issued, `k` of them waited for. -/
def Landing (Lv : S2560.Idx → BitVec 32) (k : ℕ) : sProp 𝕄 :=
  iprop(∃ fd fo, ∃ hin : ListOK i d ib fo, ⌜ib.view.read (Elt F) fo = Lv⌝
    ∗ ChunkBatch i d tb ib rb sem q fs fd fo hin EC ι 2560 (k * 65536))

theorem wp_issue [Infinite Name] [EC.LandsIn (upEmb : UEmb _ 𝕄)] (hcr : RowCredit rb) (Lv : S2560.Idx → BitVec 32) (n k : ℕ)
    (h : k + n ≤ 20) (kk : PUnit → TProg F i α) :
    Issuing i d tb ib rb sem q fs EC ι Lv k
      ⊢ iprop((Issuing i d tb ib rb sem q fs EC ι Lv (k + n) -∗ wp frame (wpE defs 𝒱 (Tile i d) bd) Set.univ (kk ⟨⟩) Q)
          -∗ wp frame (wpE defs 𝒱 (Tile i d) bd) Set.univ (gathers i tb ib rb sem k n h >>= kk) Q) := by
  unfold Issuing
  iintro ⟨%fd, %fo, %hin, %hL, HP, HB⟩ Hk
  iapply (wp_gathers i d tb ib rb sem q fs fd fo hin EC 𝒱 bd ι hcr n k h kk) $$ [HP HB]
  · isplitl [HP]; · iexact HP
    iexact HB
  iintro ⟨HP, HB⟩
  iapply Hk
  iexists fd, fo, hin
  isplitr; · ipureintro; exact hL
  isplitl [HP]; · iexact HP
  iexact HB

theorem issued_landing (Lv : S2560.Idx → BitVec 32) :
    Issuing i d tb ib rb sem q fs EC ι Lv 20 ⊢ (Landing i d tb ib rb sem q fs EC ι Lv 0 : sProp 𝕄) := by
  unfold Issuing Landing
  iintro ⟨%fd, %fo, %hin, %hL, -, HB⟩
  iexists fd, fo, hin
  isplitr; · ipureintro; exact hL
  iexact HB

theorem wp_land [EC.LandsIn (upEmb : UEmb _ 𝕄)] (hcr : RowCredit rb) (Lv : S2560.Idx → BitVec 32) (n : ℕ) :
    ∀ (k : ℕ) (h : k + n ≤ 20) (kk : PUnit → TProg F i α),
      iprop(Landing i d tb ib rb sem q fs EC ι Lv k ∗ OwesMore i d ι O W ∗ □ MayWaits (Tile i d) ι O)
        ⊢ iprop((iprop(Landing i d tb ib rb sem q fs EC ι Lv (k + n) ∗ OwesMore i d ι O W)
              -∗ wp frame (wpE defs 𝒱 (Tile i d) bd) Set.univ (kk ⟨⟩) Q)
            -∗ wp frame (wpE defs 𝒱 (Tile i d) bd) Set.univ (gatherWaits i tb rb sem k n h >>= kk) Q) := by
  induction n with
  | zero =>
    intro k h kk
    iintro ⟨HB, HO, -⟩ Hk
    iapply Hk
    isplitl [HB]; · iexact HB
    iexact HO
  | succ n ih =>
    intro k h kk
    have hk : k < 20 := by omega
    rw [gatherWaits, bind_assoc, waitIndirectGather_bind (c := Tile i d)]
    have hL : Landing i d tb ib rb sem q fs EC ι Lv k
        ⊢ (iprop(∃ fd fo, ∃ hin : ListOK i d ib fo, ⌜ib.view.read (Elt F) fo = Lv⌝
            ∗ ChunkBatch i d tb ib rb sem q fs fd fo hin EC ι 2560 (k * 65536)) : sProp 𝕄) := .rfl
    have hO : OwesMore i d ι O W ⊢ (iprop(∃ W', ⌜∀ p ∈ W', p ∈ W ∨ p.2 = ι⌝ ∗ owes (Tile i d) O W') : sProp 𝕄) := .rfl
    iintro ⟨HB, HO, #Hmw⟩ Hk
    ihave HB := hL $$ HB
    icases HB with ⟨%fd, %fo, %hin, %hL, HB⟩
    ihave HO := hO $$ HO
    icases HO with ⟨%W', %hW, HO⟩
    iapply (wp_waitBatchMulO EC 𝒱 (Tile i d) bd (dstw := rowsOf rb k hk) ι 128 ((hcr _).trans rfl)
      (show k * 65536 + 128 * 512 ≤ 512 * 2560 by omega)) $$ [HB HO]
    · isplitl [HB]; · iexact HB
      isplitl [HO]; · iexact HO
      iapply (MayWaits.elim (SemLoc.dma sem.sem)) $$ Hmw
    iintro ⟨HB, HO⟩
    ihave HO := (OwesMore.add i d ι (SemLoc.dma sem.sem) hW) $$ HO
    iapply (ih (k + 1) _ kk) $$ [HB HO]
    · isplitl [HB]
      · unfold Landing
        iexists fd, fo, hin
        isplitr; · ipureintro; exact hL
        rw [show (k + 1) * 65536 = k * 65536 + 128 * 512 by omega]
        iexact HB
      isplitl [HO]; · iexact HO
      iexact Hmw
    rw [show k + 1 + n = k + (n + 1) by omega]
    iexact Hk

/-! ## The chunk's rows, all landed -/

/-- The rows a list names, one after the other. -/
def gathered (Tv : S2000000x16.Idx → F .f32) (Lv : S2560.Idx → BitVec 32) : S2560x16.Idx → F .f32 := fun x =>
  Tv (ValueIdx.ix2 ⟨(Lv (ValueIdx.ix1 (x 0))).toNat % 2000000, Nat.mod_lt _ (by decide)⟩ (x 1))

theorem payload_eq (k : Fin 20) :
    gatherPayload HG ((tableOf tb).view.read (Elt F) fs) (rows ((listOf ib k.val k.isLt).view.read (Elt F) fo) rfl (hin k))
      = fun j => gathered (tb.view.read (Elt F) fs) (ib.view.read (Elt F) fo) ((rowsRect k).emb j) := by
  funext j
  refine congrArg (tb.view.read (Elt F) fs) (funext fun b => Fin.ext ?_)
  have hsym : S128.rowMajor.symm (j 0 : Fin 128) = ValueIdx.ix1 (n := 128) (j 0) :=
    (Equiv.symm_apply_eq _).mpr (Fin.ext (Shape.rowMajor_val_one (d := ![128]) (ValueIdx.ix1 (n := 128) (j 0))).symm)
  match b with
  | ⟨0, _⟩ =>
    have hlt : (View.read (Elt F) (listOf ib k.val k.isLt).view fo (S128.rowMajor.symm (j 0 : Fin 128))).toNat < 2000000 := hin k _
    show 0 + 1 * (View.read (Elt F) (listOf ib k.val k.isLt).view fo (S128.rowMajor.symm (j 0 : Fin 128))).toNat
      = (View.read (Elt F) ib.view fo (ValueIdx.ix1 ((rowsRect k).emb j 0))).toNat % 2000000
    have he : View.read (Elt F) (listOf ib k.val k.isLt).view fo (S128.rowMajor.symm (j 0 : Fin 128))
        = View.read (Elt F) ib.view fo (ValueIdx.ix1 ((rowsRect k).emb j 0)) := by
      refine congrArg (ib.view.read (Elt F) fo) (funext fun b => Fin.ext ?_)
      match b with
      | ⟨0, _⟩ => rw [hsym]; rfl
    rw [← he, Nat.mod_eq_of_lt hlt]; omega
  | ⟨1, _⟩ => rfl

/-- The parity's buffers at rest: list and rows at any contents, the share of the table, the semaphore at zero. -/
def Resting : sProp 𝕄 :=
  iprop((∃ fo, ib.view.loc (Tile i d) ↦[ib.view.set]{fullShare} fo) ∗ (∃ fd, rb.view.loc (Tile i d) ↦[rb.view.set]{fullShare} fd)
    ∗ (tb.view.loc (Tile i d) ↦[tb.view.set]{q} fs) ∗ semVal (Tile i d, .dma sem.sem) 0)

/-- The same with the rows of the chunk whose list is `Lv`. -/
def Landed (Lv : S2560.Idx → BitVec 32) : sProp 𝕄 :=
  iprop((∃ fo, ib.view.loc (Tile i d) ↦[ib.view.set]{fullShare} fo)
    ∗ owns (Tile i d) rb fullShare (gathered (tb.view.read (Elt F) fs) Lv)
    ∗ (tb.view.loc (Tile i d) ↦[tb.view.set]{q} fs) ∗ semVal (Tile i d, .dma sem.sem) 0)

omit [FloatOps F] [Preorder Lvl] in
/-- The twenty gathers' needs are the buffers whole. -/
theorem gatherNeeds_univ (fd : Buf (Elt F) (rb.view.loc (Tile i d))) (fo : Buf (Elt F) (ib.view.loc (Tile i d))) :
    iprop((tb.view.loc (Tile i d) ↦[tb.view.set]{q} fs) ∗ (rb.view.loc (Tile i d) ↦[rb.view.set]{fullShare} fd)
        ∗ (ib.view.loc (Tile i d) ↦[ib.view.set]{fullShare} fo))
      ⊢ (bigSep (pending 0) (gatherNeeds (Ix := Ix) (Name := Name) (U := U) (Lvl := Lvl) i d tb ib rb q fs fd fo) : sProp 𝕄) := by
  rw [← bigSep_pending_zero]
  have h1 := pointsTo_piecesOf (Ix := Ix) (Name := Name) (U := U) (Lvl := Lvl) tb.view.set fs (o := 20) (by decide) q
  have h2 := pointsTo_rects (Ix := Ix) (Name := Name) (U := U) (Lvl := Lvl) (Tile i d) rb fullShare rowsRect (fun _ _ => rfl)
    rowsRect_disjoint rowsRect_cover fd
  have h3 := pointsTo_rects (Ix := Ix) (Name := Name) (U := U) (Lvl := Lvl) (Tile i d) ib fullShare listRect (fun _ _ => rfl)
    listRect_disjoint listRect_cover fo
  rw [h1, h2, h3, bigSep_congr (fun k _ => owns_slice_read (Tile i d) rb fullShare (rowsRect k) (fun _ => rfl) fd),
    bigSep_congr (fun k _ => owns_slice_read (Tile i d) ib fullShare (listRect k) (fun _ => rfl) fo)]
  unfold gatherNeeds
  iintro ⟨H1, H2, H3⟩
  iapply (bigSep_sep_in _ _ _)
  isplitl [H1]
  · rw [tableOf_set]; iexact H1
  iapply (bigSep_sep_in _ _ _)
  isplitl [H2]; · iexact H2
  iexact H3

/-- What the rows of one gather deliver, joined. -/
theorem rowDelivers_join (k : Fin 20) :
    bigSep Finset.univ (fun j => rowDelivers (Ix := Ix) (Name := Name) (U := U) (Lvl := Lvl) i d tb ib rb q fs fd fo hin k j)
      ⊢ (iprop((owns (Tile i d) (rb.slice (rowsRect k) (fun _ => rfl)) fullShare
              (fun j => gathered (tb.view.read (Elt F) fs) (ib.view.read (Elt F) fo) ((rowsRect k).emb j)))
          ∗ (tb.view.loc (Tile i d) ↦[tb.view.set]{pieceOf q 20 (by decide) k} fs)
          ∗ (ib.view.loc (Tile i d) ↦[(listOf ib k.val k.isLt).view.set]{fullShare} fo)) : sProp 𝕄) := by
  have h0 : bigSep Finset.univ (fun j => rowDelivers (Ix := Ix) (Name := Name) (U := U) (Lvl := Lvl) i d tb ib rb q fs fd fo hin k j) ⊢ _ :=
    rowGives_join (Tile i d) (tableOf tb) (rowsOf rb k.val k.isLt) HG (listOf ib k.val k.isLt) rfl (by decide)
      (pieceOf q 20 (by decide) k) fullShare fs fd fo (hin k)
  iintro H
  ihave H := h0 $$ H
  icases H with ⟨H1, H2, H3⟩
  have h1 := owns_intro (Ix := Ix) (Name := Name) (U := U) (Lvl := Lvl) (Val := Elt F) (Tile i d) (rowsOf rb k.val k.isLt) fullShare
    ((rowsOf rb k.val k.isLt).view.write (Elt F) fd (gatherPayload HG ((tableOf tb).view.read (Elt F) fs)
      (rows ((listOf ib k.val k.isLt).view.read (Elt F) fo) rfl (hin k))) Finset.univ)
  rw [View.read_write_univ] at h1
  rw [← payload_eq i d tb ib fs fo hin k]
  isplitl [H1]
  · iapply h1; iexact H1
  isplitl [H2]
  · rw [tableOf_set]; iexact H2
  iexact H3

theorem chunkDelivers_join :
    bigSep Finset.univ (fun t => chunkDelivers (Ix := Ix) (Name := Name) (U := U) (Lvl := Lvl) i d tb ib rb q fs fd fo hin t)
      ⊢ (iprop((owns (Tile i d) rb fullShare (gathered (tb.view.read (Elt F) fs) (ib.view.read (Elt F) fo)))
          ∗ (tb.view.loc (Tile i d) ↦[tb.view.set]{q} fs) ∗ (ib.view.loc (Tile i d) ↦[ib.view.set]{fullShare} fo)) : sProp 𝕄) := by
  have h0 : bigSep Finset.univ (fun t => chunkDelivers (Ix := Ix) (Name := Name) (U := U) (Lvl := Lvl) i d tb ib rb q fs fd fo hin t)
      = bigSep Finset.univ (fun k : Fin 20 => bigSep Finset.univ fun j : Fin 128 =>
          rowDelivers (Ix := Ix) (Name := Name) (U := U) (Lvl := Lvl) i d tb ib rb q fs fd fo hin k j) := by
    rw [bigSep_univ_equiv (finProdFinEquiv (m := 20) (n := 128)), bigSep_univ_prod]
    refine bigSep_congr fun k _ => bigSep_congr fun j _ => ?_
    rw [← chunkDelivers_at i d tb ib rb q fs fd fo hin k j (by omega)]
    congr 1
    apply Fin.ext
    show j.val + 128 * k.val = 128 * k.val + j.val
    omega
  have h1 := pointsTo_piecesOf (Ix := Ix) (Name := Name) (U := U) (Lvl := Lvl) tb.view.set fs (o := 20) (by decide) q
  have h2 := owns_of_rects (Ix := Ix) (Name := Name) (U := U) (Lvl := Lvl) (Val := Elt F) (Tile i d) rb fullShare rowsRect (fun _ _ => rfl)
    rowsRect_disjoint rowsRect_cover (gathered (tb.view.read (Elt F) fs) (ib.view.read (Elt F) fo))
  have h3 := pointsTo_rects (Ix := Ix) (Name := Name) (U := U) (Lvl := Lvl) (Val := Elt F) (Tile i d) ib fullShare listRect (fun _ _ => rfl)
    listRect_disjoint listRect_cover fo
  rw [bigSep_congr (fun k _ => owns_slice_read (Tile i d) ib fullShare (listRect k) (fun _ => rfl) fo)] at h3
  rw [h0, h1, h3]
  have hm : (bigSep Finset.univ (fun k : Fin 20 => bigSep Finset.univ fun j : Fin 128 =>
        rowDelivers (Ix := Ix) (Name := Name) (U := U) (Lvl := Lvl) i d tb ib rb q fs fd fo hin k j) : sProp 𝕄)
      ⊢ bigSep Finset.univ (fun k : Fin 20 => iprop((owns (Tile i d) (rb.slice (rowsRect k) (fun _ => rfl)) fullShare
              (fun j => gathered (tb.view.read (Elt F) fs) (ib.view.read (Elt F) fo) ((rowsRect k).emb j)))
          ∗ (tb.view.loc (Tile i d) ↦[tb.view.set]{pieceOf q 20 (by decide) k} fs)
          ∗ (ib.view.loc (Tile i d) ↦[(listOf ib k.val k.isLt).view.set]{fullShare} fo))) :=
    bigSep_mono fun k _ => rowDelivers_join i d tb ib rb q fs fd fo hin k
  iintro H
  ihave H := hm $$ H
  ihave H := bigSep_sep_out _ _ _ $$ H
  icases H with ⟨H1, H⟩
  ihave H := bigSep_sep_out _ _ _ $$ H
  icases H with ⟨H2, H3⟩
  isplitl [H1]; · iapply h2; iexact H1
  isplitl [H2]; · iexact H2
  iexact H3

/-- The waits done, the chunk's rows are in the row buffer. -/
theorem landed [EC.LandsIn (upEmb : UEmb _ 𝕄)] (Lv : S2560.Idx → BitVec 32) :
    Landing i d tb ib rb sem q fs EC ι Lv 20
      ⊢ (iprop(|={Set.univ}=> Landed i d tb ib rb sem q fs Lv) : sProp 𝕄) := by
  unfold Landing Landed
  iintro ⟨%fd, %fo, %hin, %hL, HB⟩
  rw [show 20 * 65536 = 512 * 2560 by decide]
  imod (batch_collect' EC (Tile i d) (by decide)) $$ HB with ⟨HD, Hv⟩
  ihave HD := (chunkDelivers_join i d tb ib rb q fs fd fo hin) $$ HD
  icases HD with ⟨H1, H2, H3⟩
  imodintro
  isplitl [H3]; · iexists fo; iexact H3
  isplitl [H1]; · rw [← hL]; iexact H1
  isplitl [H2]; · iexact H2
  iexact Hv

end Cert.Proof.Pool

end
-- ==== Proof.Start.lean ====
/-
  A chunk's list copied in: the parity's buffers then hold the list, and no gather is issued yet.
-/
module

public import proofs.«01_k».proof.Proof.Chunk

@[expose] public section

noncomputable section

namespace Cert.Proof.Pool

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.GatherBatch

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (i : grid0.Coords) (d : Dev nD)
variable (tb : Memref sig .scVector .hbm S2000000x16 .f32) (ib : Memref sig .scVector .vmem S2560 .i32) (rb : Memref sig .scVector .vmem S2560x16 .f32)
variable (sem : DmaSems sig S_) (q : PosShare TreeShare) (fs : Buf (Elt F) (tb.view.loc (Tile i d)))
variable (xs : Memref sig .scVector .hbm S655360 .i32) (hib : ib.IsWhole) (qx : PosShare TreeShare) (fx : Buf (Elt F) (xs.view.loc (Tile i d)))

/-- The list chunk `c` of the tile gathers by. -/
abbrev listVal (c : Fin 8) : S2560.Idx → BitVec 32 := (listAt i xs c).view.read (Elt F) fx

variable {defs : Defs nD τ sig (Elt F) Λ₀} (EC : UEmb Counters (MT nD τ sig Ix (Elt F) Name U Lvl)) (𝒱 : Variants) (bd : Option 𝒱.V) (ι : Ix)
variable {α : Type} {Q : α → sProp (MT nD τ sig Ix (Elt F) Name U Lvl)}
variable {O : CellTallies nD τ sig Ix} {W : Waits sig Ix}

/-- A buffer's list whose words all name rows makes every gather's part of it do so. -/
theorem listOK_of_read {fo : Buf (Elt F) (ib.view.loc (Tile i d))} {Lv : S2560.Idx → BitVec 32} (h : ib.view.read (Elt F) fo = Lv)
    (hL : ∀ x, (Lv x).toNat < 2000000) : ListOK i d ib fo := fun k x => by
  subst h
  exact hL ((listRect k).emb x)

theorem issuing_zero [Infinite Name] [EC.LandsIn (upEmb : UEmb _ 𝕄)] {fo : Buf (Elt F) (ib.view.loc (Tile i d))}
    {fd : Buf (Elt F) (rb.view.loc (Tile i d))} {Lv : S2560.Idx → BitVec 32} (h : ib.view.read (Elt F) fo = Lv)
    (hL : ∀ x, (Lv x).toNat < 2000000) :
    iprop((ib.view.loc (Tile i d) ↦[ib.view.set]{fullShare} fo) ∗ (rb.view.loc (Tile i d) ↦[rb.view.set]{fullShare} fd)
        ∗ (tb.view.loc (Tile i d) ↦[tb.view.set]{q} fs) ∗ semVal (Tile i d, .dma sem.sem) 0)
      ⊢ (iprop(|={Set.univ}=> Issuing i d tb ib rb sem q fs EC ι Lv 0) : sProp 𝕄) := by
  unfold Issuing
  iintro ⟨H1, H2, H3, Hv⟩
  imod (batch_alloc' EC (Tile i d) (sm := .dma sem.sem) ι 512
    (chunkDelivers i d tb ib rb q fs fd fo (listOK_of_read i d ib h hL)) (E := Set.univ)) $$ Hv with HB
  imodintro
  iexists fd, fo, (listOK_of_read i d ib h hL)
  isplitr; · ipureintro; exact h
  isplitr [HB]
  · iapply (gatherNeeds_univ i d tb ib rb q fs fd fo)
    isplitl [H3]; · iexact H3
    isplitl [H2]; · iexact H2
    iexact H1
  iexact HB

theorem wp_listCopy [Infinite Name] [EC.LandsIn (upEmb : UEmb _ 𝕄)] (c : Fin 8) (s : DmaSems sig S_)
    (hL : ∀ x, (listVal i d xs fx c x).toNat < 2000000) (kk : PUnit → TProg F i α) :
    iprop(Resting i d tb ib rb sem q fs ∗ (xs.view.loc (Tile i d) ↦[xs.view.set]{qx} fx) ∗ semVal (Tile i d, .dma s.sem) 0
        ∗ OwesMore i d ι O W ∗ □ MayWaits (Tile i d) ι O)
      ⊢ iprop((iprop(Issuing i d tb ib rb sem q fs EC ι (listVal i d xs fx c) 0 ∗ (xs.view.loc (Tile i d) ↦[xs.view.set]{qx} fx)
              ∗ semVal (Tile i d, .dma s.sem) 0 ∗ OwesMore i d ι O W) -∗ wp frame (wpE defs 𝒱 (Tile i d) bd) Set.univ (kk ⟨⟩) Q)
          -∗ wp frame (wpE defs 𝒱 (Tile i d) bd) Set.univ (listCopy i xs ib hib c s >>= kk) Q) := by
  have hsub : (listAt i xs c).view.set ⊆ xs.view.set := View.set_slice_subset _ _
  have hO : OwesMore i d ι O W ⊢ (iprop(∃ W', ⌜∀ p ∈ W', p ∈ W ∨ p.2 = ι⌝ ∗ owes (Tile i d) O W') : sProp 𝕄) := .rfl
  rw [listCopy, bind_assoc, Prog.bind_lift]
  unfold Resting
  iintro ⟨⟨⟨%fo, Hi⟩, ⟨%fd, Hr⟩, Ht, Hsem⟩, Hx, Hs, HO, #Hmw⟩ Hk
  ihave HO := hO $$ HO
  icases HO with ⟨%W', %hW, HO⟩
  ihave Hx := (pointsTo_split_subset (q := qx) (f := fx) hsub).1 $$ Hx
  icases Hx with ⟨Hx, Hxr⟩
  iapply (wp_dmaLocal EC 𝒱 (Tile i d) bd (src := listAt i xs c) (dst := ib) (fs := fx) (fd := fo) ι ib.view.dmaCredit rfl
    (View.dmaCredit_pos _ (by decide)) (Finset.Subset.refl _)) $$ [Hx Hi Hs]
  · isplitl [Hx]; · iexact Hx
    isplitl [Hi]; · iexact Hi
    iexact Hs
  iintro Hfl
  rw [Prog.bind_lift]
  iapply (wp_waitLocalO EC 𝒱 (Tile i d) bd (srcw := listAt i xs c) (dstw := ib) ι rfl) $$ [Hfl HO]
  · isplitl [Hfl]; · iexact Hfl
    isplitl [HO]; · iexact HO
    iapply (MayWaits.elim (SemLoc.dma s.sem)) $$ Hmw
  iintro ⟨⟨Hi, Hx⟩, Hs, HO⟩
  ihave HO := (OwesMore.add i d ι (SemLoc.dma s.sem) hW) $$ HO
  ihave Hx := (pointsTo_split_subset (q := qx) (f := fx) hsub).2 $$ [Hx Hxr]
  · isplitl [Hx] <;> iassumption
  imod (issuing_zero i d tb ib rb sem q fs EC ι (View.read_write_univ _ _) hL) $$ [Hi Hr Ht Hsem] with HI
  · isplitl [Hi]; · iexact Hi
    isplitl [Hr]; · iexact Hr
    isplitl [Ht]; · iexact Ht
    iexact Hsem
  iapply Hk
  isplitl [HI]; · iexact HI
  isplitl [Hx]; · iexact Hx
  isplitl [Hs]; · iexact Hs
  iexact HO

end Cert.Proof.Pool

end
-- ==== Proof.Loop.lean ====
/-
  The pooling loop: each bag's forty half rows summed in four accumulators and the two halves of the sum stored.
-/
module

public import proofs.«01_k».proof.Proof.Start

@[expose] public section

noncomputable section

namespace Cert.Proof.Pool

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The sums -/

/-- Row `r` of the row buffer. -/
def rowVec (R : S2560x16.Idx → F .f32) (r : ℕ) : FVec F S16 .f32 := fun x => R (ValueIdx.ix2 (Fin.ofNat 2560 r) (x 0))

/-- Accumulator `k` of bag `t` after rows `40 t + k`, `40 t + 4 + k`, …, `40 t + 4 n + k`. -/
def acc (R : S2560x16.Idx → F .f32) (t k : ℕ) : ℕ → FVec F S16 .f32
  | 0 => rowVec R (40 * t + k)
  | n + 1 => addf (acc R t k n) (rowVec R (40 * t + 4 * (n + 1) + k))

/-- Half `h` of bag `t`'s sum. -/
def half (R : S2560x16.Idx → F .f32) (t h : ℕ) : FVec F S16 .f32 := addf (acc R t h 9) (acc R t (h + 2) 9)

/-- The sixteen lanes of `v` put at row `r` from column `l` on. -/
def putRow (P : S512x32.Idx → F .f32) (r l : ℕ) (v : FVec F S16 .f32) : S512x32.Idx → F .f32 := fun x =>
  if (x 0).val = r ∧ l ≤ (x 1).val ∧ (x 1).val < l + 16 then v (ValueIdx.ix1 (Fin.ofNat 16 ((x 1).val - l))) else P x

variable (i : grid0.Coords) (d : Dev nD)
variable (rb : Memref sig .scVector .vmem S2560x16 .f32) (pv : Memref sig .scVector .vmem S512x32 .f32)
variable {defs : Defs nD τ sig (Elt F) Λ₀} (𝒱 : Variants) (bd : Option 𝒱.V)
variable {α : Type} {Q : α → sProp (MT nD τ sig Ix (Elt F) Name U Lvl)}

/-- A program that has returned. -/
theorem wp_done (a : α) : Q a ⊢ wp frame (wpE defs 𝒱 (Tile i d) bd) Set.univ (pure a : TProg F i α) Q := by
  rw [show (pure a : TProg F i α) = Prog.ret a from rfl, wp_ret]
  iintro H
  imodintro
  iexact H

/-- What a row read out of the buffer is. -/
theorem lanes_read (f : Buf (Elt F) (rb.view.loc (Tile i d))) (t : Fin k0_t1_loop.trips) (m k : ℕ) (hm : m < 10) (hk : k < 4) :
    lanes ((rb.access (Rect.unit (s := S2560x16) (rowOff t m k) S1x16.size (rowOff_inb t m k hm hk))).read (Elt F) f)
      = rowVec (rb.view.read (Elt F) f) (40 * t.val + 4 * m + k) := by
  have ht : t.val < 64 := trips_eq ▸ t.isLt
  have ho : rowOff t m k = ![40 * t.val + 4 * m + k, 0] := rowOff_eq t ⟨m, hm⟩ ⟨k, hk⟩
  funext x
  have hx : Shape.reshapeEquiv shapeCasts_S1x16_S16 x = ValueIdx.ix2 (n0 := 1) (n1 := 16) 0 (x 0) := by
    refine Shape.reshapeEquiv_eq_of_rowMajor _ ?_
    rw [Shape.rowMajor_val_two (d := ![1, 16]), Shape.rowMajor_val_one (d := ![16])]
    show 0 * 16 + (x 0).val = (x 0).val
    omega
  show (rb.view.read (Elt F) f) ((Rect.unit (s := S2560x16) (rowOff t m k) S1x16.size (rowOff_inb t m k hm hk)).emb
    (Shape.reshapeEquiv shapeCasts_S1x16_S16 x)) = _
  rw [hx]
  refine congrArg (rb.view.read (Elt F) f) (funext fun b => Fin.ext ?_)
  match b with
  | ⟨0, _⟩ =>
    show rowOff t m k 0 + 1 * 0 = (40 * t.val + 4 * m + k) % 2560
    rw [ho, Nat.mod_eq_of_lt (by omega)]; rfl
  | ⟨1, _⟩ =>
    show rowOff t m k 1 + 1 * (x 0).val = (x 0).val
    rw [ho]; show 0 + 1 * (x 0).val = (x 0).val; omega

theorem wp_ldRow {R : S2560x16.Idx → F .f32} (t : Fin k0_t1_loop.trips) (m k : ℕ) (hm : m < 10) (hk : k < 4)
    (kk : Vec F S1x16 .f32 → TProg F i α) :
    (owns (Tile i d) rb fullShare R : sProp 𝕄)
      ⊢ iprop((∀ y, ⌜lanes y = rowVec R (40 * t.val + 4 * m + k)⌝ -∗ owns (Tile i d) rb fullShare R
            -∗ wp frame (wpE defs 𝒱 (Tile i d) bd) Set.univ (kk y) Q)
          -∗ wp frame (wpE defs 𝒱 (Tile i d) bd) Set.univ (ldRow i rb t m k hm hk >>= kk) Q) := by
  have hsub : (rb.access (Rect.unit (s := S2560x16) (rowOff t m k) S1x16.size (rowOff_inb t m k hm hk))).set ⊆ rb.view.set :=
    View.set_slice_subset _ _
  rw [ldRow, Prog.bind_lift]
  unfold owns
  iintro ⟨%f, %hf, H⟩ Hk
  iapply (wp_load_rect 𝒱 (Tile i d) bd Set.univ (m := rb)
    (r := Rect.unit (s := S2560x16) (rowOff t m k) S1x16.size (rowOff_inb t m k hm hk)) hsub) $$ H
  iintro H
  ispecialize Hk $$ %((rb.access (Rect.unit (s := S2560x16) (rowOff t m k) S1x16.size (rowOff_inb t m k hm hk))).read (Elt F) f)
  iapply Hk
  · ipureintro; rw [← hf]; exact lanes_read i d rb f t m k hm hk
  iexists f
  isplitr; · ipureintro; exact hf
  iexact H

/-- One read added to each of the four accumulators, nine times over. -/
theorem wp_poolSteps {R : S2560x16.Idx → F .f32} (t : Fin k0_t1_loop.trips) (n : ℕ) :
    ∀ (m : ℕ) (h : m + 1 + n ≤ 10) (kk : FVec F S16 .f32 × FVec F S16 .f32 × FVec F S16 .f32 × FVec F S16 .f32 → TProg F i α),
      (owns (Tile i d) rb fullShare R : sProp 𝕄)
        ⊢ iprop((owns (Tile i d) rb fullShare R -∗ wp frame (wpE defs 𝒱 (Tile i d) bd) Set.univ
                (kk (acc R t.val 0 (m + n), acc R t.val 1 (m + n), acc R t.val 2 (m + n), acc R t.val 3 (m + n))) Q)
            -∗ wp frame (wpE defs 𝒱 (Tile i d) bd) Set.univ
              (poolSteps i rb t (m + 1) n h (acc R t.val 0 m) (acc R t.val 1 m) (acc R t.val 2 m) (acc R t.val 3 m) >>= kk) Q) := by
  induction n with
  | zero =>
    intro m h kk
    iintro H Hk
    iapply Hk; iexact H
  | succ n ih =>
    intro m h kk
    rw [poolSteps]
    simp only [bind_assoc]
    iintro H Hk
    iapply (wp_ldRow i d rb 𝒱 bd t (m + 1) 0 _ _ _) $$ H
    iintro %y0 %h0 H
    iapply (wp_ldRow i d rb 𝒱 bd t (m + 1) 1 _ _ _) $$ H
    iintro %y1 %h1 H
    iapply (wp_ldRow i d rb 𝒱 bd t (m + 1) 2 _ _ _) $$ H
    iintro %y2 %h2 H
    iapply (wp_ldRow i d rb 𝒱 bd t (m + 1) 3 _ _ _) $$ H
    iintro %y3 %h3 H
    rw [h0, h1, h2, h3, show m + (n + 1) = m + 1 + n by omega]
    iapply (ih (m + 1) _ kk) $$ H
    iexact Hk

/-- The store of sixteen lanes. -/
theorem wp_stRow {P : S512x32.Idx → F .f32} (off : Fin 2 → ℕ) (hoff : ∀ a, off a + S1x16.size a ≤ S512x32.size a) (r l : ℕ)
    (ho : off = ![r, l]) (v : FVec F S16 .f32) (kk : PUnit → TProg F i α) :
    (owns (Tile i d) pv fullShare P : sProp 𝕄)
      ⊢ iprop((owns (Tile i d) pv fullShare (putRow P r l v) -∗ wp frame (wpE defs 𝒱 (Tile i d) bd) Set.univ (kk ⟨⟩) Q)
          -∗ wp frame (wpE defs 𝒱 (Tile i d) bd) Set.univ (stRow i pv off hoff v >>= kk) Q) := by
  have hsub : (pv.access (Rect.unit (s := S512x32) off S1x16.size hoff)).set ⊆ pv.view.set := View.set_slice_subset _ _
  have hval (f : Buf (Elt F) (pv.view.loc (Tile i d))) :
      pv.view.read (Elt F) ((pv.access (Rect.unit (s := S512x32) off S1x16.size hoff)).write (Elt F) f
          (shapeCast S1x16 v shapeCasts_S16_S1x16) Finset.univ)
        = putRow (pv.view.read (Elt F) f) r l v := by
    subst ho
    funext x
    unfold putRow
    split_ifs with hx
    · obtain ⟨hx0, hx1, hx2⟩ := hx
      have he : x = (Rect.unit (s := S512x32) ![r, l] S1x16.size hoff).emb
          (ValueIdx.ix2 (n0 := 1) (n1 := 16) 0 ⟨(x 1).val - l, by omega⟩) := by
        funext a
        match a with
        | ⟨0, _⟩ => exact Fin.ext (show (x 0).val = r + 1 * 0 by omega)
        | ⟨1, _⟩ => exact Fin.ext (show (x 1).val = l + 1 * ((x 1).val - l) by omega)
      have hs : Shape.reshapeEquiv shapeCasts_S16_S1x16 (ValueIdx.ix2 (n0 := 1) (n1 := 16) 0 ⟨(x 1).val - l, by omega⟩)
          = ValueIdx.ix1 (Fin.ofNat 16 ((x 1).val - l)) := by
        refine Shape.reshapeEquiv_eq_of_rowMajor _ ?_
        rw [Shape.rowMajor_val_two (d := ![1, 16]), Shape.rowMajor_val_one (d := ![16])]
        show ((x 1).val - l) % 16 = 0 * 16 + ((x 1).val - l)
        omega
      rw [← hs]
      conv_lhs => rw [he]
      exact View.read_slice_write_emb _ _ _ (Finset.mem_univ _)
    · refine View.read_slice_write_of_not_mem _ _ _ _ fun hm => hx ?_
      obtain ⟨y, -, rfl⟩ := Finset.mem_map.mp hm
      have hy0 : (y 0).val < 1 := (y 0).isLt
      have hy1 : (y 1).val < 16 := (y 1).isLt
      show r + 1 * (y 0).val = r ∧ l ≤ l + 1 * (y 1).val ∧ l + 1 * (y 1).val < l + 16
      omega
  rw [stRow, bind_assoc, Prog.bind_lift]
  unfold owns
  iintro ⟨%f, %hf, H⟩ Hk
  iapply (wp_load_rect 𝒱 (Tile i d) bd Set.univ (m := pv) (r := Rect.unit (s := S512x32) off S1x16.size hoff) hsub) $$ H
  iintro H
  rw [Prog.bind_lift]
  iapply (wp_store 𝒱 (Tile i d) bd Set.univ (m := pv) (r := Rect.unit (s := S512x32) off S1x16.size hoff) hsub) $$ H
  iintro H
  iapply Hk
  iexists _
  isplitr [H]
  swap; · iexact H
  ipureintro; rw [hval, hf]

/-- The pooled rows of the tile: bag `t` of chunk `c` at row `64 c + t`. -/
def IsPooled (R : S2560x16.Idx → F .f32) (c : ℕ) (X : S512x32.Idx → F .f32) : Prop :=
  ∀ x : S512x32.Idx, ∀ t < 64, (x 0).val = 64 * c + t → X x = half R t ((x 1).val / 16) (ValueIdx.ix1 (Fin.ofNat 16 ((x 1).val % 16)))

/-- The pooled buffer whose first `n` rows are those of `X`. -/
def PooledTo (X : S512x32.Idx → F .f32) (n : ℕ) : sProp 𝕄 :=
  iprop(∃ P, ⌜∀ x : S512x32.Idx, (x 0).val < n → P x = X x⌝ ∗ owns (Tile i d) pv fullShare P)

theorem wp_poolBag {R : S2560x16.Idx → F .f32} {X : S512x32.Idx → F .f32} (c : Fin 8) (hX : IsPooled R c.val X) (t : Fin k0_t1_loop.trips) :
    (iprop(owns (Tile i d) rb fullShare R ∗ PooledTo i d pv X (64 * c.val + t.val)) : sProp 𝕄)
      ⊢ wp frame (wpE defs 𝒱 (Tile i d) bd) Set.univ (poolBag i rb pv c t)
          fun _ => iprop(owns (Tile i d) rb fullShare R ∗ PooledTo i d pv X (64 * c.val + (t.val + 1))) := by
  have ht : t.val < 64 := trips_eq ▸ t.isLt
  rw [poolBag]
  unfold PooledTo
  iintro ⟨H, ⟨%P, %hP, HP⟩⟩
  iapply (wp_ldRow i d rb 𝒱 bd t 0 0 _ _ _) $$ H
  iintro %y0 %h0 H
  iapply (wp_ldRow i d rb 𝒱 bd t 0 1 _ _ _) $$ H
  iintro %y1 %h1 H
  iapply (wp_ldRow i d rb 𝒱 bd t 0 2 _ _ _) $$ H
  iintro %y2 %h2 H
  iapply (wp_ldRow i d rb 𝒱 bd t 0 3 _ _ _) $$ H
  iintro %y3 %h3 H
  rw [h0, h1, h2, h3]
  iapply (wp_poolSteps i d rb 𝒱 bd t 9 0 _ _) $$ H
  iintro H
  iapply (wp_stRow i d pv 𝒱 bd _ _ (64 * c.val + t.val) 0 (outOff_eq c t).1 _ _) $$ HP
  iintro HP
  iapply (wp_stRow i d pv 𝒱 bd _ _ (64 * c.val + t.val) 16 (outOff_eq c t).2 _ _) $$ HP
  iintro HP
  iapply (wp_done i d 𝒱 bd)
  isplitl [H]; · iexact H
  iexists _
  isplitr [HP]
  swap; · iexact HP
  ipureintro
  intro x hx
  have hx1 : (x 1).val < 32 := (x 1).isLt
  by_cases hlt : (x 0).val < 64 * c.val + t.val
  · have hn : ¬ (x 0).val = 64 * c.val + t.val := by omega
    simp only [putRow, hn, false_and, if_false]
    exact hP x hlt
  · have he : (x 0).val = 64 * c.val + t.val := by omega
    rw [hX x t.val ht he]
    simp only [putRow, he, true_and]
    by_cases hc : (x 1).val < 16
    · rw [if_neg (by omega), if_pos (by omega), show (x 1).val / 16 = 0 by omega, show (x 1).val % 16 = (x 1).val - 0 by omega]
      rfl
    · rw [if_pos (by omega), show (x 1).val / 16 = 1 by omega, show (x 1).val % 16 = (x 1).val - 16 by omega]
      rfl

theorem wp_poolLoop {R : S2560x16.Idx → F .f32} {X : S512x32.Idx → F .f32} (c : Fin 8) (hX : IsPooled R c.val X)
    (kk : BitVec 32 → TProg F i α) :
    (iprop(owns (Tile i d) rb fullShare R ∗ PooledTo i d pv X (64 * c.val)) : sProp 𝕄)
      ⊢ iprop((∀ a, iprop(owns (Tile i d) rb fullShare R ∗ PooledTo i d pv X (64 * (c.val + 1)))
            -∗ wp frame (wpE defs 𝒱 (Tile i d) bd) Set.univ (kk a) Q)
          -∗ wp frame (wpE defs 𝒱 (Tile i d) bd) Set.univ (poolLoop i rb pv c >>= kk) Q) := by
  rw [poolLoop]
  have h := Scf.wp_for_bind frame (wpE defs 𝒱 (Tile i d) bd) Set.univ k0_t1_loop.lb k0_t1_loop.ub k0_t1_loop.st k0_t1_ok 0#32
    (fun t _ => poolBag i rb pv c t)
    (fun n _ => (iprop(owns (Tile i d) rb fullShare R ∗ PooledTo i d pv X (64 * c.val + n)) : sProp 𝕄))
    (fun t _ => wp_poolBag i d rb pv 𝒱 bd c hX t) (kk := kk) (Q := Q)
  have e : 64 * c.val + Scf.trips k0_t1_loop.lb k0_t1_loop.ub k0_t1_loop.st = 64 * (c.val + 1) := by
    have : Scf.trips k0_t1_loop.lb k0_t1_loop.ub k0_t1_loop.st = 64 := trips_eq
    omega
  rw [e] at h
  exact h

end Cert.Proof.Pool

end
-- ==== Proof.ProgramEq.lean ====
/-
  The printed tile program is its structure (`Program.lean`).
-/
module

public import proofs.«01_k».proof.Proof.Program

@[expose] public section

noncomputable section

namespace Cert.Proof.Pool

open Idealize.ShloMosaic Idealize.SL.Sem
open Cert.KernelIdeal Cert.KernelIdeal.Gen

variable {F : FTy → Type} [FloatOps F]

variable (i : grid0.Coords) (arg2 : Memref sig .scVector .hbm S655360 .i32) (harg2 : arg2.IsWhole)
  (arg3 : Memref sig .scVector .hbm S2000000x16 .f32) (harg3 : arg3.IsWhole) (arg4 : Memref sig .scVector .hbm S16384x32 .f32) (harg4 : arg4.IsWhole)
  (arg5 : Memref sig .scVector .vmem S2560 .i32) (harg5 : arg5.IsWhole) (arg6 : Memref sig .scVector .vmem S2560 .i32) (harg6 : arg6.IsWhole)
  (arg7 : Memref sig .scVector .vmem S2560x16 .f32) (harg7 : arg7.IsWhole) (arg8 : Memref sig .scVector .vmem S2560x16 .f32) (harg8 : arg8.IsWhole)
  (arg9 : Memref sig .scVector .vmem S512x32 .f32) (harg9 : arg9.IsWhole)
  (arg10 arg11 r0 r1 r2 r3 r4 r5 r6 r7 r8 : DmaSems sig S_)

/-- The chunks in order, grouped as the printed text is. -/
def chunksCut : TProg F i PUnit := do
  listCopy i arg2 arg5 harg5 0 r0
  gathers i arg3 arg5 arg7 arg10 0 20 (by omega)
  listCopy i arg2 arg6 harg6 1 r1
  gathers i arg3 arg6 arg8 arg11 0 20 (by omega)
  gatherWaits i arg3 arg7 arg10 0 20 (by omega)
  (do let _ ← poolLoop i arg7 arg9 0; listCopy i arg2 arg5 harg5 2 r2; gathers i arg3 arg5 arg7 arg10 0 2 (by omega))
  gathers i arg3 arg5 arg7 arg10 2 18 (by omega)
  gatherWaits i arg3 arg8 arg11 0 20 (by omega)
  (do let _ ← poolLoop i arg8 arg9 1; listCopy i arg2 arg6 harg6 3 r3; gathers i arg3 arg6 arg8 arg11 0 0 (by omega))
  gathers i arg3 arg6 arg8 arg11 0 20 (by omega)
  gatherWaits i arg3 arg7 arg10 0 20 (by omega)
  (do let _ ← poolLoop i arg7 arg9 2; pure PUnit.unit)
  listCopy i arg2 arg5 harg5 4 r4
  gathers i arg3 arg5 arg7 arg10 0 20 (by omega)
  gatherWaits i arg3 arg8 arg11 0 20 (by omega)
  (do let _ ← poolLoop i arg8 arg9 3; listCopy i arg2 arg6 harg6 5 r5; gathers i arg3 arg6 arg8 arg11 0 4 (by omega))
  gathers i arg3 arg6 arg8 arg11 4 16 (by omega)
  gatherWaits i arg3 arg7 arg10 0 20 (by omega)
  (do let _ ← poolLoop i arg7 arg9 4; listCopy i arg2 arg5 harg5 6 r6; gathers i arg3 arg5 arg7 arg10 0 2 (by omega))
  gathers i arg3 arg5 arg7 arg10 2 18 (by omega)
  gatherWaits i arg3 arg8 arg11 0 20 (by omega)
  (do let _ ← poolLoop i arg8 arg9 5; listCopy i arg2 arg6 harg6 7 r7; gathers i arg3 arg6 arg8 arg11 0 0 (by omega))
  gathers i arg3 arg6 arg8 arg11 0 20 (by omega)
  gatherWaits i arg3 arg7 arg10 0 20 (by omega)
  (do let _ ← poolLoop i arg7 arg9 6; pure PUnit.unit)
  gatherWaits i arg3 arg8 arg11 0 20 (by omega)
  let _ ← poolLoop i arg8 arg9 7
  pure PUnit.unit

set_option maxHeartbeats 4000000 in
set_option maxRecDepth 65536 in
/-- The printed chunks are these. -/
theorem part91_eq : k0_part91 (F := F) i arg2 harg2 arg3 harg3 arg4 harg4 arg5 harg5 arg6 harg6 arg7 harg7 arg8 harg8 arg9 harg9 arg10 arg11 r0 r1 r2 r3 r4 r5 r6 r7 r8
    = chunksCut i arg2 arg3 arg5 harg5 arg6 harg6 arg7 arg8 arg9 arg10 arg11 r0 r1 r2 r3 r4 r5 r6 r7 := rfl

end Cert.Proof.Pool

end
-- ==== Proof.Chunks.lean ====
/-
  The tile's eight chunks, run in order with two parities of buffers, and the pooled rows written out.
-/
module

public import proofs.«01_k».proof.Proof.Loop
public import proofs.«01_k».proof.Proof.ProgramEq

@[expose] public section

noncomputable section

namespace Cert.Proof.Pool

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (i : grid0.Coords) (d : Dev nD)
variable (tb : Memref sig .scVector .hbm S2000000x16 .f32) (fs : Buf (Elt F) (tb.view.loc (Tile i d)))
variable (xs : Memref sig .scVector .hbm S655360 .i32) (qx : PosShare TreeShare) (fx : Buf (Elt F) (xs.view.loc (Tile i d)))
variable (pv : Memref sig .scVector .vmem S512x32 .f32)
variable {defs : Defs nD τ sig (Elt F) Λ₀} (EC : UEmb Counters (MT nD τ sig Ix (Elt F) Name U Lvl)) (𝒱 : Variants) (bd : Option 𝒱.V) (ι : Ix)
variable {α : Type} {Q : α → sProp (MT nD τ sig Ix (Elt F) Name U Lvl)}
variable {O : CellTallies nD τ sig Ix} {W : Waits sig Ix}

section Parity

variable (ib : Memref sig .scVector .vmem S2560 .i32) (rb : Memref sig .scVector .vmem S2560x16 .f32) (sem : DmaSems sig S_)
variable (q : PosShare TreeShare)

/-- A chunk's twenty waits: its rows are there. -/
theorem wp_drain [EC.LandsIn (upEmb : UEmb _ 𝕄)] (hcr : RowCredit rb) (Lv : S2560.Idx → BitVec 32) (h : 0 + 20 ≤ 20) (kk : PUnit → TProg F i α) :
    iprop(Issuing i d tb ib rb sem q fs EC ι Lv 20 ∗ OwesMore i d ι O W ∗ □ MayWaits (Tile i d) ι O)
      ⊢ iprop((iprop(Landed i d tb ib rb sem q fs Lv ∗ OwesMore i d ι O W)
            -∗ wp frame (wpE defs 𝒱 (Tile i d) bd) Set.univ (kk ⟨⟩) Q)
          -∗ wp frame (wpE defs 𝒱 (Tile i d) bd) Set.univ (gatherWaits i tb rb sem 0 20 h >>= kk) Q) := by
  iintro ⟨HI, HO, #Hmw⟩ Hk
  ihave HL := (issued_landing i d tb ib rb sem q fs EC ι Lv) $$ HI
  iapply (wp_land i d tb ib rb sem q fs EC 𝒱 bd ι hcr Lv 20 0 h kk) $$ [HL HO]
  · isplitl [HL]; · iexact HL
    isplitl [HO]; · iexact HO
    iexact Hmw
  iintro ⟨HL, HO⟩
  imod (landed i d tb ib rb sem q fs EC ι Lv) $$ HL with HL
  iapply Hk
  isplitl [HL]; · iexact HL
  iexact HO

/-- A chunk's rows pooled: the parity's buffers are at rest again. -/
theorem wp_pool {Lv : S2560.Idx → BitVec 32} {X : S512x32.Idx → F .f32} (c : Fin 8)
    (hX : IsPooled (gathered (tb.view.read (Elt F) fs) Lv) c.val X) (kk : BitVec 32 → TProg F i α) :
    (iprop(Landed i d tb ib rb sem q fs Lv ∗ PooledTo i d pv X (64 * c.val)) : sProp 𝕄)
      ⊢ iprop((∀ a, iprop(Resting i d tb ib rb sem q fs ∗ PooledTo i d pv X (64 * (c.val + 1)))
            -∗ wp frame (wpE defs 𝒱 (Tile i d) bd) Set.univ (kk a) Q)
          -∗ wp frame (wpE defs 𝒱 (Tile i d) bd) Set.univ (poolLoop i rb pv c >>= kk) Q) := by
  unfold Landed Resting
  iintro ⟨⟨Hi, Hr, Ht, Hs⟩, HP⟩ Hk
  iapply (wp_poolLoop i d rb pv 𝒱 bd c hX kk) $$ [Hr HP]
  · isplitl [Hr]; · iexact Hr
    iexact HP
  iintro %a ⟨Hr, HP⟩
  ispecialize Hk $$ %a
  iapply Hk
  isplitr [HP]
  swap; · iexact HP
  isplitl [Hi]; · iexact Hi
  isplitl [Hr]
  · unfold owns
    icases Hr with ⟨%f, -, Hr⟩
    iexists f; iexact Hr
  isplitl [Ht]; · iexact Ht
  iexact Hs

/-- A chunk started: its list copied in and its gathers issued, in two runs. -/
theorem wp_start [Infinite Name] [EC.LandsIn (upEmb : UEmb _ 𝕄)] (hib : ib.IsWhole) (hcr : RowCredit rb) (c : Fin 8) (s : DmaSems sig S_)
    (hL : ∀ x, (listVal i d xs fx c x).toNat < 2000000) (m n : ℕ) (h : 0 + m ≤ 20) (h' : m + n ≤ 20) (hmn : m + n = 20) (kk : PUnit → TProg F i α) :
    iprop(Resting i d tb ib rb sem q fs ∗ (xs.view.loc (Tile i d) ↦[xs.view.set]{qx} fx) ∗ semVal (Tile i d, .dma s.sem) 0
        ∗ OwesMore i d ι O W ∗ □ MayWaits (Tile i d) ι O)
      ⊢ iprop((iprop(Issuing i d tb ib rb sem q fs EC ι (listVal i d xs fx c) 20 ∗ (xs.view.loc (Tile i d) ↦[xs.view.set]{qx} fx)
              ∗ semVal (Tile i d, .dma s.sem) 0 ∗ OwesMore i d ι O W) -∗ wp frame (wpE defs 𝒱 (Tile i d) bd) Set.univ (kk ⟨⟩) Q)
          -∗ wp frame (wpE defs 𝒱 (Tile i d) bd) Set.univ (listCopy i xs ib hib c s >>= fun _ => gathers i tb ib rb sem 0 m h
              >>= fun _ => gathers i tb ib rb sem m n h' >>= kk) Q) := by
  iintro H Hk
  iapply (wp_listCopy i d tb ib rb sem q fs xs hib qx fx EC 𝒱 bd ι c s hL _) $$ H
  iintro ⟨HI, Hx, Hs, HO⟩
  iapply (wp_issue i d tb ib rb sem q fs EC 𝒱 bd ι hcr _ m 0 h _) $$ HI
  iintro HI
  rw [Nat.zero_add]
  iapply (wp_issue i d tb ib rb sem q fs EC 𝒱 bd ι hcr _ n m h' _) $$ HI
  iintro HI
  rw [hmn]
  iapply Hk
  isplitl [HI]; · iexact HI
  isplitl [Hx]; · iexact Hx
  isplitl [Hs]; · iexact Hs
  iexact HO

/-- A chunk started, its gathers issued in one run. -/
theorem wp_start' [Infinite Name] [EC.LandsIn (upEmb : UEmb _ 𝕄)] (hib : ib.IsWhole) (hcr : RowCredit rb) (c : Fin 8) (s : DmaSems sig S_)
    (hL : ∀ x, (listVal i d xs fx c x).toNat < 2000000) (h' : 0 + 20 ≤ 20) (kk : PUnit → TProg F i α) :
    iprop(Resting i d tb ib rb sem q fs ∗ (xs.view.loc (Tile i d) ↦[xs.view.set]{qx} fx) ∗ semVal (Tile i d, .dma s.sem) 0
        ∗ OwesMore i d ι O W ∗ □ MayWaits (Tile i d) ι O)
      ⊢ iprop((iprop(Issuing i d tb ib rb sem q fs EC ι (listVal i d xs fx c) 20 ∗ (xs.view.loc (Tile i d) ↦[xs.view.set]{qx} fx)
              ∗ semVal (Tile i d, .dma s.sem) 0 ∗ OwesMore i d ι O W) -∗ wp frame (wpE defs 𝒱 (Tile i d) bd) Set.univ (kk ⟨⟩) Q)
          -∗ wp frame (wpE defs 𝒱 (Tile i d) bd) Set.univ (listCopy i xs ib hib c s >>= fun _ => gathers i tb ib rb sem 0 20 h' >>= kk) Q) :=
  wp_start i d tb fs xs qx fx EC 𝒱 bd ι ib rb sem q hib hcr c s hL 0 20 (by omega) h' rfl kk

end Parity

section Whole

variable (arg5 : Memref sig .scVector .vmem S2560 .i32) (harg5 : arg5.IsWhole) (arg6 : Memref sig .scVector .vmem S2560 .i32) (harg6 : arg6.IsWhole)
  (arg7 : Memref sig .scVector .vmem S2560x16 .f32) (arg8 : Memref sig .scVector .vmem S2560x16 .f32)
  (arg10 arg11 r0 r1 r2 r3 r4 r5 r6 r7 : DmaSems sig S_) (qa qb : PosShare TreeShare)

/-- The eight list copies' semaphores, each at zero. -/
def copySems : sProp 𝕄 :=
  iprop(semVal (Tile i d, .dma r0.sem) 0 ∗ semVal (Tile i d, .dma r1.sem) 0 ∗ semVal (Tile i d, .dma r2.sem) 0 ∗ semVal (Tile i d, .dma r3.sem) 0 ∗ semVal (Tile i d, .dma r4.sem) 0 ∗ semVal (Tile i d, .dma r5.sem) 0 ∗ semVal (Tile i d, .dma r6.sem) 0 ∗ semVal (Tile i d, .dma r7.sem) 0)

/-- The tile's state between its chunks' runs: all at rest, the first `n` rows pooled. -/
def TileRest (X : S512x32.Idx → F .f32) (n : ℕ) : sProp 𝕄 :=
  iprop(Resting i d tb arg5 arg7 arg10 qa fs ∗ Resting i d tb arg6 arg8 arg11 qb fs ∗ (xs.view.loc (Tile i d) ↦[xs.view.set]{qx} fx)
    ∗ copySems (Ix := Ix) (F := F) (Name := Name) (U := U) (Lvl := Lvl) i d r0 r1 r2 r3 r4 r5 r6 r7 ∗ PooledTo i d pv X n)

set_option maxHeartbeats 1000000 in
theorem wp_chunks [Infinite Name] [EC.LandsIn (upEmb : UEmb _ 𝕄)] (hcr7 : RowCredit arg7) (hcr8 : RowCredit arg8)
    (hL : ∀ c x, (listVal i d xs fx c x).toNat < 2000000) {X : S512x32.Idx → F .f32}
    (hX : ∀ c : Fin 8, IsPooled (gathered (tb.view.read (Elt F) fs) (listVal i d xs fx c)) c.val X) (kk : PUnit → TProg F i α) :
    iprop(TileRest i d tb fs xs qx fx pv arg5 arg6 arg7 arg8 arg10 arg11 r0 r1 r2 r3 r4 r5 r6 r7 qa qb X 0
        ∗ OwesMore i d ι O W ∗ □ MayWaits (Tile i d) ι O)
      ⊢ iprop((iprop(TileRest i d tb fs xs qx fx pv arg5 arg6 arg7 arg8 arg10 arg11 r0 r1 r2 r3 r4 r5 r6 r7 qa qb X 512
              ∗ OwesMore i d ι O W) -∗ wp frame (wpE defs 𝒱 (Tile i d) bd) Set.univ (kk ⟨⟩) Q)
          -∗ wp frame (wpE defs 𝒱 (Tile i d) bd) Set.univ
            (chunksCut i xs tb arg5 harg5 arg6 harg6 arg7 arg8 pv arg10 arg11 r0 r1 r2 r3 r4 r5 r6 r7 >>= kk) Q) := by
  rw [chunksCut]
  simp only [bind_assoc, pure_bind]
  unfold TileRest copySems
  iintro ⟨⟨HA, HB, Hx, ⟨H0, H1, H2, H3, H4, H5, H6, H7⟩, HP⟩, HO, #Hmw⟩ Hk
  iapply (wp_start' i d tb fs xs qx fx EC 𝒱 bd ι arg5 arg7 arg10 qa harg5 hcr7 0 r0 (hL 0) _ _) $$ [HA Hx H0 HO]
  · isplitl [HA]; · iexact HA
    isplitl [Hx]; · iexact Hx
    isplitl [H0]; · iexact H0
    isplitl [HO]; · iexact HO
    iexact Hmw
  iintro ⟨HA, Hx, H0, HO⟩
  iapply (wp_start' i d tb fs xs qx fx EC 𝒱 bd ι arg6 arg8 arg11 qb harg6 hcr8 1 r1 (hL 1) _ _) $$ [HB Hx H1 HO]
  · isplitl [HB]; · iexact HB
    isplitl [Hx]; · iexact Hx
    isplitl [H1]; · iexact H1
    isplitl [HO]; · iexact HO
    iexact Hmw
  iintro ⟨HB, Hx, H1, HO⟩
  iapply (wp_drain i d tb fs EC 𝒱 bd ι arg5 arg7 arg10 qa hcr7 _ _ _) $$ [HA HO]
  · isplitl [HA]; · iexact HA
    isplitl [HO]; · iexact HO
    iexact Hmw
  iintro ⟨HA, HO⟩
  iapply (wp_pool i d tb fs pv 𝒱 bd arg5 arg7 arg10 qa 0 (hX 0) _) $$ [HA HP]
  · isplitl [HA]; · iexact HA
    iexact HP
  iintro %a0 ⟨HA, HP⟩
  iapply (wp_start i d tb fs xs qx fx EC 𝒱 bd ι arg5 arg7 arg10 qa harg5 hcr7 2 r2 (hL 2) 2 18 _ _ rfl _) $$ [HA Hx H2 HO]
  · isplitl [HA]; · iexact HA
    isplitl [Hx]; · iexact Hx
    isplitl [H2]; · iexact H2
    isplitl [HO]; · iexact HO
    iexact Hmw
  iintro ⟨HA, Hx, H2, HO⟩
  iapply (wp_drain i d tb fs EC 𝒱 bd ι arg6 arg8 arg11 qb hcr8 _ _ _) $$ [HB HO]
  · isplitl [HB]; · iexact HB
    isplitl [HO]; · iexact HO
    iexact Hmw
  iintro ⟨HB, HO⟩
  iapply (wp_pool i d tb fs pv 𝒱 bd arg6 arg8 arg11 qb 1 (hX 1) _) $$ [HB HP]
  · isplitl [HB]; · iexact HB
    iexact HP
  iintro %a1 ⟨HB, HP⟩
  iapply (wp_start i d tb fs xs qx fx EC 𝒱 bd ι arg6 arg8 arg11 qb harg6 hcr8 3 r3 (hL 3) 0 20 _ _ rfl _) $$ [HB Hx H3 HO]
  · isplitl [HB]; · iexact HB
    isplitl [Hx]; · iexact Hx
    isplitl [H3]; · iexact H3
    isplitl [HO]; · iexact HO
    iexact Hmw
  iintro ⟨HB, Hx, H3, HO⟩
  iapply (wp_drain i d tb fs EC 𝒱 bd ι arg5 arg7 arg10 qa hcr7 _ _ _) $$ [HA HO]
  · isplitl [HA]; · iexact HA
    isplitl [HO]; · iexact HO
    iexact Hmw
  iintro ⟨HA, HO⟩
  iapply (wp_pool i d tb fs pv 𝒱 bd arg5 arg7 arg10 qa 2 (hX 2) _) $$ [HA HP]
  · isplitl [HA]; · iexact HA
    iexact HP
  iintro %a2 ⟨HA, HP⟩
  iapply (wp_start' i d tb fs xs qx fx EC 𝒱 bd ι arg5 arg7 arg10 qa harg5 hcr7 4 r4 (hL 4) _ _) $$ [HA Hx H4 HO]
  · isplitl [HA]; · iexact HA
    isplitl [Hx]; · iexact Hx
    isplitl [H4]; · iexact H4
    isplitl [HO]; · iexact HO
    iexact Hmw
  iintro ⟨HA, Hx, H4, HO⟩
  iapply (wp_drain i d tb fs EC 𝒱 bd ι arg6 arg8 arg11 qb hcr8 _ _ _) $$ [HB HO]
  · isplitl [HB]; · iexact HB
    isplitl [HO]; · iexact HO
    iexact Hmw
  iintro ⟨HB, HO⟩
  iapply (wp_pool i d tb fs pv 𝒱 bd arg6 arg8 arg11 qb 3 (hX 3) _) $$ [HB HP]
  · isplitl [HB]; · iexact HB
    iexact HP
  iintro %a3 ⟨HB, HP⟩
  iapply (wp_start i d tb fs xs qx fx EC 𝒱 bd ι arg6 arg8 arg11 qb harg6 hcr8 5 r5 (hL 5) 4 16 _ _ rfl _) $$ [HB Hx H5 HO]
  · isplitl [HB]; · iexact HB
    isplitl [Hx]; · iexact Hx
    isplitl [H5]; · iexact H5
    isplitl [HO]; · iexact HO
    iexact Hmw
  iintro ⟨HB, Hx, H5, HO⟩
  iapply (wp_drain i d tb fs EC 𝒱 bd ι arg5 arg7 arg10 qa hcr7 _ _ _) $$ [HA HO]
  · isplitl [HA]; · iexact HA
    isplitl [HO]; · iexact HO
    iexact Hmw
  iintro ⟨HA, HO⟩
  iapply (wp_pool i d tb fs pv 𝒱 bd arg5 arg7 arg10 qa 4 (hX 4) _) $$ [HA HP]
  · isplitl [HA]; · iexact HA
    iexact HP
  iintro %a4 ⟨HA, HP⟩
  iapply (wp_start i d tb fs xs qx fx EC 𝒱 bd ι arg5 arg7 arg10 qa harg5 hcr7 6 r6 (hL 6) 2 18 _ _ rfl _) $$ [HA Hx H6 HO]
  · isplitl [HA]; · iexact HA
    isplitl [Hx]; · iexact Hx
    isplitl [H6]; · iexact H6
    isplitl [HO]; · iexact HO
    iexact Hmw
  iintro ⟨HA, Hx, H6, HO⟩
  iapply (wp_drain i d tb fs EC 𝒱 bd ι arg6 arg8 arg11 qb hcr8 _ _ _) $$ [HB HO]
  · isplitl [HB]; · iexact HB
    isplitl [HO]; · iexact HO
    iexact Hmw
  iintro ⟨HB, HO⟩
  iapply (wp_pool i d tb fs pv 𝒱 bd arg6 arg8 arg11 qb 5 (hX 5) _) $$ [HB HP]
  · isplitl [HB]; · iexact HB
    iexact HP
  iintro %a5 ⟨HB, HP⟩
  iapply (wp_start i d tb fs xs qx fx EC 𝒱 bd ι arg6 arg8 arg11 qb harg6 hcr8 7 r7 (hL 7) 0 20 _ _ rfl _) $$ [HB Hx H7 HO]
  · isplitl [HB]; · iexact HB
    isplitl [Hx]; · iexact Hx
    isplitl [H7]; · iexact H7
    isplitl [HO]; · iexact HO
    iexact Hmw
  iintro ⟨HB, Hx, H7, HO⟩
  iapply (wp_drain i d tb fs EC 𝒱 bd ι arg5 arg7 arg10 qa hcr7 _ _ _) $$ [HA HO]
  · isplitl [HA]; · iexact HA
    isplitl [HO]; · iexact HO
    iexact Hmw
  iintro ⟨HA, HO⟩
  iapply (wp_pool i d tb fs pv 𝒱 bd arg5 arg7 arg10 qa 6 (hX 6) _) $$ [HA HP]
  · isplitl [HA]; · iexact HA
    iexact HP
  iintro %a6 ⟨HA, HP⟩
  iapply (wp_drain i d tb fs EC 𝒱 bd ι arg6 arg8 arg11 qb hcr8 _ _ _) $$ [HB HO]
  · isplitl [HB]; · iexact HB
    isplitl [HO]; · iexact HO
    iexact Hmw
  iintro ⟨HB, HO⟩
  iapply (wp_pool i d tb fs pv 𝒱 bd arg6 arg8 arg11 qb 7 (hX 7) _) $$ [HB HP]
  · isplitl [HB]; · iexact HB
    iexact HP
  iintro %a7 ⟨HB, HP⟩
  iapply Hk
  isplitr [HO]
  swap; · iexact HO
  isplitl [HA]; · iexact HA
  isplitl [HB]; · iexact HB
  isplitl [Hx]; · iexact Hx
  isplitr [HP]
  swap; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Whole

end Cert.Proof.Pool

end
-- ==== Proof.Tile.lean ====
/-
  The whole program of one tile: its chunks, then its block of the pooled array written.
-/
module

public import proofs.«01_k».proof.Proof.Chunks

@[expose] public section

noncomputable section

namespace Cert.Proof.Pool

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (i : grid0.Coords) (d : Dev nD)
variable (tb : Memref sig .scVector .hbm S2000000x16 .f32) (htb : tb.IsWhole) (fs : Buf (Elt F) (tb.view.loc (Tile i d)))
variable (xs : Memref sig .scVector .hbm S655360 .i32) (hxs : xs.IsWhole) (qx : PosShare TreeShare) (fx : Buf (Elt F) (xs.view.loc (Tile i d)))
variable (po : Memref sig .scVector .hbm S16384x32 .f32) (hpo : po.IsWhole)
variable (pv : Memref sig .scVector .vmem S512x32 .f32) (hpv : pv.IsWhole)
variable {defs : Defs nD τ sig (Elt F) Λ₀} (EC : UEmb Counters (MT nD τ sig Ix (Elt F) Name U Lvl)) (𝒱 : Variants) (bd : Option 𝒱.V) (ι : Ix)
variable {α : Type} {Q : α → sProp (MT nD τ sig Ix (Elt F) Name U Lvl)}
variable {O : CellTallies nD τ sig Ix} {W : Waits sig Ix}

/-- The tile's block of the pooled array. -/
abbrev blockOf : Memref sig .scVector .hbm S512x32 .f32 :=
  po.slice (Rect.unit (s := S16384x32) (k0_off42 i) S512x32.size (k0_off42_inb i)) (fun _ => rfl)

omit [FloatOps F] [Preorder Lvl] in
/-- Every row pooled, the buffer holds the tile's block. -/
theorem PooledTo.all (X : S512x32.Idx → F .f32) : PooledTo i d pv X 512 ⊢ (owns (Tile i d) pv fullShare X : sProp 𝕄) := by
  unfold PooledTo
  iintro ⟨%P, %hP, H⟩
  have h : P = X := funext fun x => hP x (x 0).isLt
  rw [h]; iexact H

theorem wp_writeOut [Infinite Name] [EC.LandsIn (upEmb : UEmb _ 𝕄)] (s : DmaSems sig S_) (X : S512x32.Idx → F .f32) :
    iprop(owns (Tile i d) pv fullShare X ∗ (∃ g, po.view.loc (Tile i d) ↦[(blockOf i po).view.set]{fullShare} g) ∗ semVal (Tile i d, .dma s.sem) 0
        ∗ OwesMore i d ι O W ∗ □ (MayWaits (Tile i d) ι O : sProp 𝕄))
      ⊢ wp frame (wpE defs 𝒱 (Tile i d) bd) Set.univ (writeOut i pv po hpv s)
          fun _ => iprop((∃ f, pv.view.loc (Tile i d) ↦[pv.view.set]{fullShare} f) ∗ owns (Tile i d) (blockOf i po) fullShare X
            ∗ semVal (Tile i d, .dma s.sem) 0 ∗ OwesMore i d ι O W) := by
  have hO : OwesMore i d ι O W ⊢ (iprop(∃ W', ⌜∀ p ∈ W', p ∈ W ∨ p.2 = ι⌝ ∗ owes (Tile i d) O W') : sProp 𝕄) := .rfl
  have hw : (writeOut i pv po hpv s : TProg F i PUnit)
      = Prog.lift (.enqueueDma pv (.here (blockOf i po)) (.dma s.sem) hpv.wordExact (View.wordExact_bits rfl) ⟨Or.inl rfl, trivial⟩)
        >>= fun _ => Prog.lift (.waitDma2 s.sem pv (blockOf i po) hpv.wordExact (View.wordExact_bits rfl)) >>= fun _ => pure PUnit.unit := rfl
  rw [hw, Prog.bind_lift]
  iintro ⟨Hp, ⟨%g, Ho⟩, Hs, HO, #Hmw⟩
  ihave HO := hO $$ HO
  icases HO with ⟨%W', %hW, HO⟩
  unfold owns
  icases Hp with ⟨%f, %hf, Hp⟩
  iapply (wp_dmaLocal EC 𝒱 (Tile i d) bd (src := pv) (dst := blockOf i po) (fs := f) (fd := g) ι (blockOf i po).view.dmaCredit rfl
    (View.dmaCredit_pos _ (by decide)) (Finset.Subset.refl _)) $$ [Hp Ho Hs]
  · isplitl [Hp]; · iexact Hp
    isplitl [Ho]; · iexact Ho
    iexact Hs
  iintro Hfl
  rw [Prog.bind_lift]
  iapply (wp_waitLocalO EC 𝒱 (Tile i d) bd (srcw := pv) (dstw := blockOf i po) ι rfl) $$ [Hfl HO]
  · isplitl [Hfl]; · iexact Hfl
    isplitl [HO]; · iexact HO
    iapply (MayWaits.elim (SemLoc.dma s.sem)) $$ Hmw
  iintro ⟨⟨Ho, Hp⟩, Hs, HO⟩
  ihave HO := (OwesMore.add i d ι (SemLoc.dma s.sem) hW) $$ HO
  iapply (wp_done i d 𝒱 bd)
  isplitl [Hp]; · iexists f; iexact Hp
  isplitl [Ho]
  · iexists _
    isplitr [Ho]
    swap; · iexact Ho
    ipureintro
    rw [View.read_write_univ]
    exact hf
  isplitl [Hs]; · iexact Hs
  iexact HO

variable (arg5 : Memref sig .scVector .vmem S2560 .i32) (harg5 : arg5.IsWhole) (arg6 : Memref sig .scVector .vmem S2560 .i32) (harg6 : arg6.IsWhole)
  (arg7 : Memref sig .scVector .vmem S2560x16 .f32) (harg7 : arg7.IsWhole) (arg8 : Memref sig .scVector .vmem S2560x16 .f32) (harg8 : arg8.IsWhole)
  (arg10 arg11 r0 r1 r2 r3 r4 r5 r6 r7 r8 : DmaSems sig S_) (qa qb : PosShare TreeShare)

theorem body_eq : cc0_gather_pool (F := F) i xs hxs tb htb po hpo arg5 harg5 arg6 harg6 arg7 harg7 arg8 harg8 pv hpv arg10 arg11 r0 r1 r2 r3 r4 r5 r6 r7 r8
    = chunksCut i xs tb arg5 harg5 arg6 harg6 arg7 arg8 pv arg10 arg11 r0 r1 r2 r3 r4 r5 r6 r7 >>= fun _ => writeOut i pv po hpv r8 := by
  rw [← part91_eq i xs hxs tb htb po hpo arg5 harg5 arg6 harg6 arg7 harg7 arg8 harg8 pv hpv arg10 arg11 r0 r1 r2 r3 r4 r5 r6 r7 r8]
  rfl

/-- What a tile holds when it starts and, pooled rows apart, when it ends. -/
def TileHeld : sProp 𝕄 :=
  iprop(Resting i d tb arg5 arg7 arg10 qa fs ∗ Resting i d tb arg6 arg8 arg11 qb fs ∗ (xs.view.loc (Tile i d) ↦[xs.view.set]{qx} fx)
    ∗ copySems (Ix := Ix) (F := F) (Name := Name) (U := U) (Lvl := Lvl) i d r0 r1 r2 r3 r4 r5 r6 r7
    ∗ (∃ f, pv.view.loc (Tile i d) ↦[pv.view.set]{fullShare} f) ∗ semVal (Tile i d, .dma r8.sem) 0)

theorem wp_tile [Infinite Name] [EC.LandsIn (upEmb : UEmb _ 𝕄)] (hcr7 : RowCredit arg7) (hcr8 : RowCredit arg8)
    (hL : ∀ c x, (listVal i d xs fx c x).toNat < 2000000) {X : S512x32.Idx → F .f32}
    (hX : ∀ c : Fin 8, IsPooled (gathered (tb.view.read (Elt F) fs) (listVal i d xs fx c)) c.val X) :
    iprop(TileHeld i d tb fs xs qx fx pv arg5 arg6 arg7 arg8 arg10 arg11 r0 r1 r2 r3 r4 r5 r6 r7 r8 qa qb
        ∗ (∃ g, po.view.loc (Tile i d) ↦[(blockOf i po).view.set]{fullShare} g) ∗ owes (Tile i d) O W ∗ □ (MayWaits (Tile i d) ι O : sProp 𝕄))
      ⊢ wp frame (wpE defs 𝒱 (Tile i d) bd) Set.univ
          (cc0_gather_pool i xs hxs tb htb po hpo arg5 harg5 arg6 harg6 arg7 harg7 arg8 harg8 pv hpv arg10 arg11 r0 r1 r2 r3 r4 r5 r6 r7 r8)
          fun _ => iprop(TileHeld i d tb fs xs qx fx pv arg5 arg6 arg7 arg8 arg10 arg11 r0 r1 r2 r3 r4 r5 r6 r7 r8 qa qb
            ∗ owns (Tile i d) (blockOf i po) fullShare X ∗ OwesMore i d ι O W) := by
  rw [body_eq]
  unfold TileHeld
  iintro ⟨⟨HA, HB, Hx, HS, ⟨%f, HP⟩, H8⟩, Ho, HO, #Hmw⟩
  ihave HO := (OwesMore.intro i d ι) $$ HO
  iapply (wp_chunks i d tb fs xs qx fx pv EC 𝒱 bd ι arg5 harg5 arg6 harg6 arg7 arg8 arg10 arg11 r0 r1 r2 r3 r4 r5 r6 r7 qa qb
    hcr7 hcr8 hL hX _) $$ [HA HB Hx HS HP HO]
  · isplitr [HO]
    · unfold TileRest PooledTo
      isplitl [HA]; · iexact HA
      isplitl [HB]; · iexact HB
      isplitl [Hx]; · iexact Hx
      isplitl [HS]; · iexact HS
      iexists (pv.view.read (Elt F) f)
      isplitr
      · ipureintro; intro x hx; exact absurd hx (Nat.not_lt_zero _)
      iapply (owns_intro (Tile i d) pv fullShare f); iexact HP
    isplitl [HO]; · iexact HO
    iexact Hmw
  unfold TileRest
  iintro ⟨⟨HA, HB, Hx, HS, HP⟩, HO⟩
  ihave HP := (PooledTo.all i d pv X) $$ HP
  ihave Hw := (wp_writeOut i d po pv hpv EC 𝒱 bd ι r8 X (defs := defs) (O := O) (W := W)) $$ [HP Ho H8 HO]
  · isplitl [HP]; · iexact HP
    isplitl [Ho]; · iexact Ho
    isplitl [H8]; · iexact H8
    isplitl [HO]; · iexact HO
    iexact Hmw
  iapply (wp_wand frame _ _) $$ Hw
  iintro %_ ⟨HP, Ho, H8, HO⟩
  isplitr [Ho HO]
  · isplitl [HA]; · iexact HA
    isplitl [HB]; · iexact HB
    isplitl [Hx]; · iexact Hx
    isplitl [HS]; · iexact HS
    isplitl [HP]; · iexact HP
    iexact H8
  isplitl [Ho]; · iexact Ho
  iexact HO

end Cert.Proof.Pool

end
-- ==== Proof.Launch.lean ====
/-
  The launch of the tiles: what each is handed and hands back, and that its program does so.
-/
module

public import proofs.«01_k».proof.Proof.Tile
public import proofs.«01_k».proof.Proof.Gen.KernelIdeal.Launch
public import Idealize.ShloMosaic.Lib.SparseCore.Quiescent

@[expose] public section

noncomputable section

namespace Cert.Proof.Pool

open Idealize.ShloMosaic Idealize.ShloMosaic.SparseCore Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## The program as the launch takes it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The tiles and the arrays -/

abbrev iLoc (d : Dev nD) : Loc nD τ sig := (SparseCore.T d).loc main_v10
abbrev xLoc (d : Dev nD) : Loc nD τ sig := (SparseCore.T d).loc main_v11
abbrev oLoc (d : Dev nD) : Loc nD τ sig := (SparseCore.T d).loc main_v12

abbrev iMem : Memref sig .scVector .hbm S655360 .i32 := Memref.whole main_v10_scv
abbrev xMem : Memref sig .scVector .hbm S2000000x16 .f32 := Memref.whole main_v11_scv
abbrev oMem : Memref sig .scVector .hbm S16384x32 .f32 := Memref.whole main_v12_scv

/-- The tile of SparseCore `c`, subcore `s`. -/
def tileOf (c : Fin (grid0.bound 0)) (s : Fin (grid0.bound 1)) : grid0.Coords :=
  fun | 0 => c | 1 => s | ⟨_ + 2, h⟩ => absurd h (Nat.not_lt.2 (Nat.le_add_left _ _))

/-- The tile's number among the thirty-two. -/
abbrev number (i : grid0.Coords) : Fin 32 :=
  ⟨2 * (i 1).val + (i 0).val, by
    have h0 : (i 0).val < 2 := (i 0).isLt
    have h1 : (i 1).val < 16 := (i 1).isLt
    omega⟩

/-- The tile's share of what all the tiles read. -/
abbrev shareOf (i : grid0.Coords) : PosShare TreeShare := pieceOf fullShare 32 (by decide) (number i)

/-- The rows of the pooled array the tile writes. -/
abbrev blockSet (i : grid0.Coords) : Finset S16384x32.Idx := (blockOf i oMem).view.set

variable [FloatOps F]

/-- The arrays of one device: the list, the rows and the pooled array before and after. -/
structure Arrays (F : FTy → Type) (d : Dev nD) where
  list : Buf (Elt F) (iLoc d)
  rows : Buf (Elt F) (xLoc d)
  before : Buf (Elt F) (oLoc d)
  pooled : Buf (Elt F) (oLoc d)

/-- The list's words name rows and the pooled array is what the tiles make of them. -/
def Arrays.Ok {d : Dev nD} (A : Arrays F d) : Prop := ∀ i : grid0.Coords,
  (∀ c x, (listVal i d iMem A.list c x).toNat < 2000000)
    ∧ ∀ c : Fin 8, IsPooled (gathered ((xMem).view.read (Elt F) A.rows) (listVal i d iMem A.list c)) c.val
        ((blockOf i oMem).view.read (Elt F) A.pooled)

variable (A : (d : Dev nD) → Arrays F d)

/-- What a tile is handed, and with `A.pooled` for `o` hands back. -/
def tileHands (d : Dev nD) (o : Buf (Elt F) (oLoc d)) (i : grid0.Coords) : sProp 𝕄 :=
  iprop((iLoc d ↦{shareOf i} (A d).list) ∗ (xLoc d ↦{shareOf i} (A d).rows) ∗ oLoc d ↦[blockSet i]{fullShare} o)

instance tileHands_storable (d : Dev nD) (o : Buf (Elt F) (oLoc d)) (i : grid0.Coords) :
    Storable (upEmb : UEmb _ 𝕄) (tileHands A d o i) := by unfold tileHands; infer_instance

/-- The tile of task `s` of SparseCore `c` of the call. -/
abbrev taskTile (c : Fin ((K (F := F)).nCore 0)) (s : Fin ((K (F := F)).nSub 0)) : grid0.Coords := tileOf ⟨c.val, c.isLt⟩ ⟨s.val, s.isLt⟩

/-- The one call: each SparseCore is handed what its tiles are, all together. -/
def P : (K (F := F)).Pay (nD := nD) (Val := Elt F) (Name := ℕ) (U := UU) where
  st := fun q d c => match q with | 0 => bigSep Finset.univ fun s => tileHands A d (A d).before (taskTile c s)
  dn := fun q d c => match q with | 0 => bigSep Finset.univ fun s => tileHands A d (A d).pooled (taskTile c s)
  go := fun q d c s => match q with | 0 => tileHands A d (A d).before (taskTile c s)
  td := fun q d c s => match q with | 0 => tileHands A d (A d).pooled (taskTile c s)
  x := fun _ _ => iprop(emp)

instance P_storable : (P (F := F) A).IsStorable where
  st q d c := match q with
    | 0 => (inferInstance : Storable (upEmb : UEmb _ 𝕄) (bigSep Finset.univ fun s => tileHands A d (A d).before (taskTile c s)))
  dn q d c := match q with
    | 0 => (inferInstance : Storable (upEmb : UEmb _ 𝕄) (bigSep Finset.univ fun s => tileHands A d (A d).pooled (taskTile c s)))
  go q d c s := match q with | 0 => tileHands_storable A d _ _
  td q d c s := match q with | 0 => tileHands_storable A d _ _

theorem vecSplit : (K (F := F)).VecSplit' (P A) 0 := by
  intro d c
  show (bigSep Finset.univ fun s => tileHands A d (A d).before (taskTile c s)) ⊢ |={Set.univ}=> iprop(
      (bigSep Finset.univ fun s => tileHands A d (A d).before (taskTile c s))
      ∗ ((bigSep Finset.univ fun s => tileHands A d (A d).pooled (taskTile c s))
          -∗ bigSep Finset.univ fun s => tileHands A d (A d).pooled (taskTile c s)))
  iintro H; imodintro
  isplitl [H]; · iexact H
  iintro H; iexact H

/-! ## A tile's own buffers and semaphores -/

section Task

variable (d : Dev nD) (i : grid0.Coords)

omit [FloatOps F] in
/-- Of a family's members, those a one-to-one naming names come first. -/
theorem named_first {I J : Type} [DecidableEq I] [Fintype J] {s : Finset I} (f : J → I) (hf : Function.Injective f) (hs : ∀ j, f j ∈ s)
    (Φ : I → sProp 𝕄) : bigSep s Φ = iprop((bigSep Finset.univ fun j => Φ (f j)) ∗ bigSep (s \ Finset.univ.map ⟨f, hf⟩) Φ) := by
  refine (bigSep_sdiff_split (t := Finset.univ.map ⟨f, hf⟩) fun x hx => ?_).trans ?_
  · obtain ⟨j, -, rfl⟩ := Finset.mem_map.mp hx
    exact hs j
  · rw [BI.bigSep_map]
    rfl

/-- The tile's five buffers. -/
abbrev ownRef : Fin 5 → Ref sig .scVector
  | 0 => cc0_scratch0 | 1 => cc0_scratch1 | 2 => cc0_scratch2 | 3 => cc0_scratch3 | 4 => cc0_scratch4
  | ⟨_ + 5, h⟩ => absurd h (Nat.not_lt.2 (Nat.le_add_left _ _))

/-- The tile's eleven copy semaphores. -/
abbrev ownSem (k : Fin 11) : DmaSem sig := ⟨k.val, lt_of_lt_of_le k.isLt (by decide)⟩

abbrev bufAny (b : Ref sig .scVector) : sProp 𝕄 := iprop(∃ f, (Tile i d).loc b ↦{fullShare} f)

omit [FloatOps F] in
theorem ownRef_injective : Function.Injective ownRef := by decide

omit [FloatOps F] in
theorem ownBufs_tile : ∃ R : sProp 𝕄,
    (ownBufs (Tile i d) : sProp 𝕄)
      = iprop((bufAny d i cc0_scratch0 ∗ bufAny d i cc0_scratch1 ∗ bufAny d i cc0_scratch2 ∗ bufAny d i cc0_scratch3 ∗ bufAny d i cc0_scratch4) ∗ R) := by
  have h := named_first (F := F) (s := ownRefs (τ := τ) (sig := sig) (Tile i d).2)
    (fun k : Fin 5 => (Tile i d).2.devRef (ownRef k)) (fun a b h => ownRef_injective (Proc.devRef_injective _ h))
    (fun k => SparseCore.Cfg.mem_ownRefs_of_owner (match k with | 0 => rfl | 1 => rfl | 2 => rfl | 3 => rfl | 4 => rfl))
    (fun b => (iprop(∃ f, ((d, b) : Loc nD τ sig) ↦{fullShare} f) : sProp 𝕄))
  rw [bigSep_univ_eq_bigSepL [(0 : Fin 5), 1, 2, 3, 4] (by decide) (by decide)] at h
  exact ⟨_, h⟩

omit [FloatOps F] in
theorem ownSem_injective : Function.Injective ownSem := fun a b h => Fin.ext (by simpa using congrArg Fin.val h)

abbrev semAt (k : Fin 11) : sProp 𝕄 := semVal (Tile i d, .dma (ownSem k)) 0

omit [FloatOps F] in
theorem ownSems_tile : ∃ R : sProp 𝕄,
    (ownSems0 (Tile i d) : sProp 𝕄)
      = iprop((semAt d i 0 ∗ semAt d i 1 ∗ semAt d i 2 ∗ semAt d i 3 ∗ semAt d i 4 ∗ semAt d i 5 ∗ semAt d i 6 ∗ semAt d i 7 ∗ semAt d i 8
          ∗ semAt d i 9 ∗ semAt d i 10) ∗ R) := by
  have h := named_first (F := F) (s := ownCells (Tile i d))
    (fun k : Fin 11 => ((Tile i d, .dma (ownSem k)) : GSem nD τ sig))
    (fun a b h => by
      have h2 : (SemLoc.dma (ownSem a) : SemLoc sig) = .dma (ownSem b) := congrArg Prod.snd h
      exact ownSem_injective (by injection h2))
    (fun k => mem_ownCells.mpr ⟨rfl, by
      show (SemLoc.dma (ownSem k) : SemLoc sig).isScoped .scVector = true
      revert k; decide⟩)
    (fun g => (semVal g 0 : sProp 𝕄))
  rw [bigSep_univ_eq_bigSepL [(0 : Fin 11), 1, 2, 3, 4, 5, 6, 7, 8, 9, 10] (by decide) (by decide)] at h
  exact ⟨_, h⟩

/-! ## The tile's task -/

omit [FloatOps F] in
theorem pts_list (q : PosShare TreeShare) (f : Buf (Elt F) (iLoc d)) :
    ((iMem).view.loc (Tile i d) ↦[(iMem).view.set]{q} f : sProp 𝕄) = iLoc d ↦{q} f := by
  rw [show (iMem).view.set = Finset.univ from View.set_whole _]

omit [FloatOps F] in
/-- The two parities' shares of the rows. -/
theorem pts_rows (q : PosShare TreeShare) (f : Buf (Elt F) (xLoc d)) :
    (xLoc d ↦{q} f : sProp 𝕄)
      = iprop(((xMem).view.loc (Tile i d) ↦[(xMem).view.set]{q.left} f) ∗ (xMem).view.loc (Tile i d) ↦[(xMem).view.set]{q.right} f) := by
  rw [show (xMem).view.set = Finset.univ from View.set_whole _]
  exact BI.Entails.antisymm (pointsTo_share (PosShare.mem_left_op_right q)).1 (pointsTo_share (PosShare.mem_left_op_right q)).2

omit [FloatOps F] in
/-- The block handed back at the pooled array's contents. -/
theorem owns_block (f : Buf (Elt F) (oLoc d)) :
    (owns (Tile i d) (blockOf i oMem) fullShare ((blockOf i oMem).view.read (Elt F) f) : sProp 𝕄) ⊢ oLoc d ↦[blockSet i]{fullShare} f := by
  unfold owns
  iintro ⟨%g, %hg, H⟩
  have h : ((blockOf i oMem).view.loc (Tile i d) ↦[(blockOf i oMem).view.set]{fullShare} g : sProp 𝕄) = oLoc d ↦[blockSet i]{fullShare} f :=
    pointsTo_congr fun x hx => by
      obtain ⟨y, -, rfl⟩ := Finset.mem_map.mp hx
      have e := congrFun hg y
      rw [View.read_apply, View.read_apply] at e
      exact (cast_inj _).mp e
  rw [← h]; iexact H

/-- What the tile's program holds. -/
abbrev held (f : Buf (Elt F) (xLoc d)) (g : Buf (Elt F) (iLoc d)) (q : PosShare TreeShare) : sProp 𝕄 :=
  TileHeld i d xMem f iMem q g (Memref.whole cc0_scratch4) (Memref.whole cc0_scratch0) (Memref.whole cc0_scratch1) (Memref.whole cc0_scratch2)
    (Memref.whole cc0_scratch3) cc0_scratch5 cc0_scratch6 cc0_scoped0 cc0_scoped1 cc0_scoped2 cc0_scoped3 cc0_scoped4 cc0_scoped5 cc0_scoped6
    cc0_scoped7 cc0_scoped8 q.left q.right

/-- A tile's own buffers and semaphores, and what it is handed of the list and the rows. -/
abbrev given (f : Buf (Elt F) (xLoc d)) (g : Buf (Elt F) (iLoc d)) (q : PosShare TreeShare) : sProp 𝕄 :=
  iprop((iLoc d ↦{q} g) ∗ (xLoc d ↦{q} f)
    ∗ (bufAny d i cc0_scratch0 ∗ bufAny d i cc0_scratch1 ∗ bufAny d i cc0_scratch2 ∗ bufAny d i cc0_scratch3 ∗ bufAny d i cc0_scratch4)
    ∗ semAt d i 0 ∗ semAt d i 1 ∗ semAt d i 2 ∗ semAt d i 3 ∗ semAt d i 4 ∗ semAt d i 5 ∗ semAt d i 6 ∗ semAt d i 7 ∗ semAt d i 8
      ∗ semAt d i 9 ∗ semAt d i 10)

omit [FloatOps F] in
theorem given_held (f : Buf (Elt F) (xLoc d)) (g : Buf (Elt F) (iLoc d)) (q : PosShare TreeShare) : given d i f g q ⊢ held d i f g q := by
  unfold given held
  rw [pts_rows d i]
  unfold TileHeld Resting copySems
  rw [pts_list]
  simp only [View.set_whole, Memref.view_whole]
  iintro ⟨AL, ⟨AT, BT⟩, ⟨A0, A1, A2, A3, A4⟩, A5, A6, S0, S1, S2, S3, S4, S5, S6, S7, S8⟩
  isplitl [A0 A2 AT A5]
  · isplitl [A0]; · iexact A0
    isplitl [A2]; · iexact A2
    isplitl [AT]; · iexact AT
    iexact A5
  isplitl [A1 A3 BT A6]
  · isplitl [A1]; · iexact A1
    isplitl [A3]; · iexact A3
    isplitl [BT]; · iexact BT
    iexact A6
  isplitl [AL]; · iexact AL
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [A4]; · iexact A4
  iexact S8

omit [FloatOps F] in
theorem held_given (f : Buf (Elt F) (xLoc d)) (g : Buf (Elt F) (iLoc d)) (q : PosShare TreeShare) : held d i f g q ⊢ given d i f g q := by
  unfold given held
  rw [pts_rows d i]
  unfold TileHeld Resting copySems
  rw [pts_list]
  simp only [View.set_whole, Memref.view_whole]
  iintro ⟨⟨A0, A2, AT, A5⟩, ⟨A1, A3, BT, A6⟩, AL, ⟨S0, S1, S2, S3, S4, S5, S6, S7⟩, A4, S8⟩
  isplitl [AL]; · iexact AL
  isplitl [AT BT]
  · isplitl [AT]; · iexact AT
    iexact BT
  isplitl [A0 A1 A2 A3 A4]
  · isplitl [A0]; · iexact A0
    isplitl [A1]; · iexact A1
    isplitl [A2]; · iexact A2
    isplitl [A3]; · iexact A3
    iexact A4
  isplitl [A5]; · iexact A5
  isplitl [A6]; · iexact A6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

omit [FloatOps F] in
theorem credit2 : RowCredit (Memref.whole cc0_scratch2 : Memref sig .scVector .vmem S2560x16 .f32) := fun _ => rfl
omit [FloatOps F] in
theorem credit3 : RowCredit (Memref.whole cc0_scratch3 : Memref sig .scVector .vmem S2560x16 .f32) := fun _ => rfl

theorem tile_task (hA : (A d).Ok) (O : CellTallies nD τ sig (HIx 1)) (W : Waits sig (HIx 1)) (hO : ∀ g, O g none = 0) :
    iprop(levAts (K (F := F)).L (K (F := F)).lev ∗ emp ∗ tileHands A d (A d).before i
        ∗ scopedBufs (Tile i d) ∗ scopedSems0 (Tile i d) ∗ owes (Tile i d) O W)
      ⊢ wp frame (wpE (defs₀ (F := F)) 𝒱₀ (Tile i d) none) Set.univ
          (cc0_gather_pool i iMem (Memref.isWhole_whole _) xMem (Memref.isWhole_whole _) oMem (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scoped0 cc0_scoped1 cc0_scoped2
            cc0_scoped3 cc0_scoped4 cc0_scoped5 cc0_scoped6 cc0_scoped7 cc0_scoped8)
          fun _ => iprop(tileHands A d (A d).pooled i ∗ scopedBufs (Tile i d) ∗ scopedSems0 (Tile i d)
            ∗ ∃ W', ⌜∀ p ∈ W', p ∈ W ∨ p.2 = none⌝ ∗ owes (Tile i d) O W') := by
  obtain ⟨RB, hB⟩ := ownBufs_tile (F := F) d i
  obtain ⟨RS, hS⟩ := ownSems_tile (F := F) d i
  rw [(K (F := F)).scopedBufs_V facts d _ _, SparseCore.Cfg.scopedSems0_V (Val := Elt F) d _ _, hB, hS]
  unfold tileHands
  iintro ⟨#Hlv, -, ⟨Hi, Hx, Ho⟩, ⟨Hb, HRB⟩, ⟨Hs, HRS⟩, HO⟩
  ihave #Hmw := (show levAts (K (F := F)).L (K (F := F)).lev ⊢ (Transfers.MayWaits (Tile i d) (none : HIx 1) O : sProp 𝕄) from
    (K (F := F)).mayWaits_none (thr := Tile i d) hO) $$ Hlv
  have hw := wp_tile (F := F) i d xMem (Memref.isWhole_whole _) (A d).rows iMem (Memref.isWhole_whole _) (shareOf i) (A d).list oMem (Memref.isWhole_whole _)
    (Memref.whole cc0_scratch4) (Memref.isWhole_whole _) (defs := defs₀) (countersEmb (nD := nD) (τ := τ) (sig := sig) (Ix := HIx 1) (Val := Elt F) (Name := ℕ) (U := UU) (Lvl := ℕ)) 𝒱₀ none (none : HIx 1) (O := O) (W := W)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch5 cc0_scratch6 cc0_scoped0 cc0_scoped1 cc0_scoped2 cc0_scoped3 cc0_scoped4 cc0_scoped5 cc0_scoped6 cc0_scoped7 cc0_scoped8
    (shareOf i).left (shareOf i).right credit2 credit3 (hA i).1 (hA i).2
  ihave Hw := hw $$ [Hi Hx Ho Hb Hs HO]
  · isplitl [Hi Hx Hb Hs]
    · iapply (given_held d i _ _ _)
      isplitl [Hi]; · iexact Hi
      isplitl [Hx]; · iexact Hx
      isplitl [Hb]; · iexact Hb
      iexact Hs
    isplitl [Ho]; · iexists _; iexact Ho
    isplitl [HO]; · iexact HO
    imodintro; iexact Hmw
  iapply (wp_wand frame _ _) $$ Hw
  iintro %a ⟨HT, Ho, HO⟩
  ihave HT := (held_given d i _ _ _) $$ HT
  icases HT with ⟨Hi, Hx, Hb, Hs⟩
  isplitl [Hi Hx Ho]
  · isplitl [Hi]; · iexact Hi
    isplitl [Hx]; · iexact Hx
    iapply (owns_block d i (A d).pooled); iexact Ho
  isplitl [Hb HRB]
  · isplitl [Hb]; · iexact Hb
    iexact HRB
  isplitl [Hs HRS]
  · isplitl [Hs]; · iexact Hs
    iexact HRS
  have hm : OwesMore i d (none : HIx 1) O W ⊢ (iprop(∃ W', ⌜∀ p ∈ W', p ∈ W ∨ p.2 = none⌝ ∗ owes (Tile i d) O W') : sProp 𝕄) := .rfl
  iapply hm; iexact HO

end Task

theorem defs₀_vector (c : Fin τ.nSC) (s : Fin τ.nSub) :
    defs₀ (F := F) (.scVector c s) 0 ()
      = SparseCore.onTile hcore0 hsub0 (fun c s => cc0_gather_pool (tileOf c s)
          iMem (Memref.isWhole_whole _) xMem (Memref.isWhole_whole _) oMem (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scoped0 cc0_scoped1 cc0_scoped2
            cc0_scoped3 cc0_scoped4 cc0_scoped5 cc0_scoped6 cc0_scoped7 cc0_scoped8) ⟨⟩ c s := rfl

omit [FloatOps F] in
theorem task_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
theorem tileObl (hA : ∀ d, (A d).Ok) : (K (F := F)).TileObl (D (F := F)) 𝒱 (P A) v₀ 0 := by
  intro d c s O W hO _ _
  simp only [show (P A).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (tile_task A d (tileOf ⟨_, hcs.1⟩ ⟨_, hcs.2⟩) (hA d) O W hO).trans (wp_mono frame _ _ fun _ => task_post)

end Cert.Proof.Pool

end
-- ==== Proof.Deal.lean ====
/-
  The arrays of a device dealt to its thirty-two tiles, and gathered back from them.
-/
module

public import proofs.«01_k».proof.Proof.Launch

@[expose] public section

noncomputable section

namespace Cert.Proof.Pool

open Idealize.ShloMosaic Idealize.ShloMosaic.SparseCore
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

local notation "𝕄" => MT nD τ sig (HIx 1) (Elt F) ℕ UU ℕ

/-! ## The tiles' blocks are the thirty-two parts of the pooled array -/

theorem blocks_divide : 32 ∣ S16384x32.size 0 := ⟨512, rfl⟩

abbrev partOf (j : Fin 32) : Rect S16384x32 := Rect.part (s := S16384x32) (a₀ := 0) blocks_divide j

theorem blockRect_eq (i : grid0.Coords) :
    Rect.unit (s := S16384x32) (k0_off42 i) S512x32.size (k0_off42_inb i) = partOf (number i) := by
  unfold partOf Rect.part Rect.block
  congr 1 <;> funext a
  · rw [k0_off42_eq]
    match a with
    | 0 => simp [Shape.partIx, Shape.partSize, number]; omega
    | 1 => simp [Shape.partIx, Shape.partSize]
  · match a with
    | 0 => simp [Shape.partSize]
    | 1 => simp [Shape.partSize]

theorem blockSet_eq (i : grid0.Coords) : blockSet i = (partOf (number i)).set := by
  show ((View.whole (main_v12_scv : Ref sig .scVector)).slice (Rect.unit (s := S16384x32) (k0_off42 i) S512x32.size (k0_off42_inb i))).set = _
  rw [View.set_slice, blockRect_eq]
  exact Finset.map_refl

/-- SparseCores and subcores, numbered. -/
def numbering : Fin 2 × Fin 16 ≃ Fin 32 := (Equiv.prodComm _ _).trans finProdFinEquiv

theorem number_tileOf (c : Fin 2) (s : Fin 16) : number (tileOf c s) = numbering (c, s) := Fin.ext (by
  show 2 * s.val + c.val = (finProdFinEquiv (s, c)).val
  exact Nat.add_comm _ _)

/-- A family over the numbers is one over the SparseCores' subcores. -/
theorem by_tile (Φ : Fin 32 → sProp 𝕄) :
    bigSep Finset.univ Φ = bigSep Finset.univ fun c : Fin 2 => bigSep Finset.univ fun s : Fin 16 => Φ (number (tileOf c s)) := by
  rw [bigSep_univ_equiv numbering Φ, bigSep_univ_prod]
  simp only [number_tileOf]

theorem pooled_blocks (d : Dev nD) (f : Buf (Elt F) (oLoc d)) :
    (oLoc d ↦{fullShare} f : sProp 𝕄) = bigSep Finset.univ fun j : Fin 32 => oLoc d ↦[(partOf j).set]{fullShare} f := by
  rw [← pointsTo_biUnion Finset.univ (ℓ := oLoc d) (fun j => (partOf j).set) fun i _ j _ h => Rect.part_disjoint blocks_divide h,
    show (Finset.univ.biUnion fun j => (partOf j).set) = Finset.univ from Rect.biUnion_part blocks_divide]

/-- The three arrays whole are the tiles' parts of them together. -/
theorem deal (A : (d : Dev nD) → Arrays F d) (d : Dev nD) (o : Buf (Elt F) (oLoc d)) :
    (iprop((iLoc d ↦{fullShare} (A d).list) ∗ (xLoc d ↦{fullShare} (A d).rows) ∗ oLoc d ↦{fullShare} o) : sProp 𝕄)
      = bigSep Finset.univ fun c : Fin 2 => bigSep Finset.univ fun s : Fin 16 => tileHands A d o (tileOf c s) := by
  rw [pointsTo_piecesOf Finset.univ (A d).list (o := 32) (by decide) fullShare, pointsTo_piecesOf Finset.univ (A d).rows (o := 32) (by decide) fullShare,
    pooled_blocks, ← bigSep_sep', ← bigSep_sep', by_tile]
  unfold tileHands
  simp only [blockSet_eq]

end Cert.Proof.Pool

end
-- ==== Proof.Region.lean ====
/-
  The projection that follows the tiles: at each of its eight points a block of 2048 pooled rows is multiplied by the
  transposed weight and written to the same rows of the result.
-/
module

public import proofs.«01_k».proof.Proof.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.Regions

@[expose] public section

noncomputable section

namespace Cert.Proof.Pool

open Idealize.ShloMosaic Idealize.ShloMosaic.TcCoe
open Idealize.ShloMosaic.Pipeline (Dat BodyObligation)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig (HIx 1) (Elt F) ℕ UU ℕ

/-! ## One point -/

theorem zeros2 : (![0, 0] : Fin 2 → Nat) = fun _ => 0 := funext fun a => by fin_cases a <;> rfl

abbrev all0 : Rect S2048x32 := Rect.unit (s := S2048x32) ![0, 0] S2048x32.size inb_S2048x32_S2048x32_0_0
abbrev all1 : Rect S32x128 := Rect.unit (s := S32x128) ![0, 0] S32x128.size inb_S32x128_S32x128_0_0
abbrev all2 : Rect S2048x128 := Rect.unit (s := S2048x128) ![0, 0] S2048x128.size inb_S2048x128_S2048x128_0_0

theorem read_all0 (M : Memref sig .tc .vmem S2048x32 .f32) (f : M.view.ty.Contents (Elt F)) :
    (M.access all0).read (Elt F) f = M.view.read (Elt F) f := View.ld_unit_zero zeros2 _ (M.view.read (Elt F) f)
theorem read_all1 (M : Memref sig .tc .vmem S32x128 .f32) (f : M.view.ty.Contents (Elt F)) :
    (M.access all1).read (Elt F) f = M.view.read (Elt F) f := View.ld_unit_zero zeros2 _ (M.view.read (Elt F) f)
theorem read_all2 (M : Memref sig .tc .vmem S2048x128 .f32) (f : M.view.ty.Contents (Elt F)) (w : Vec F S2048x128 .f32) :
    M.view.read (Elt F) ((M.access all2).write (Elt F) f w Finset.univ) = w :=
  (View.ld_unit_zero zeros2 inb_S2048x128_S2048x128_0_0 (M.view.read (Elt F) ((M.access all2).write (Elt F) f w Finset.univ))).symm.trans
    (View.read_write_univ (v := M.access all2) f w)

/-- From a block of rows and the weight, their product is left in the third buffer. -/
theorem proj_run (c : Dev nD) (i : grid1.Coords) (M0 : Memref sig .tc .vmem S2048x32 .f32) (h0 : M0.IsWhole)
    (M1 : Memref sig .tc .vmem S32x128 .f32) (h1 : M1.IsWhole) (M2 : Memref sig .tc .vmem S2048x128 .f32) (h2 : M2.IsWhole)
    (X0 : Vec F S2048x32 .f32) (X1 : Vec F S32x128 .f32) (X2 : Vec F S2048x128 .f32) (Q : PUnit → sProp 𝕄) :
    iprop(owns (c : Thread nD τ) M0 fullShare X0 ∗ owns (c : Thread nD τ) M1 fullShare X1 ∗ owns (c : Thread nD τ) M2 fullShare X2
      ∗ (iprop(owns (c : Thread nD τ) M0 fullShare X0 ∗ owns (c : Thread nD τ) M1 fullShare X1
          ∗ owns (c : Thread nD τ) M2 fullShare (k1_pay1 X0 X1)) -∗ Q ⟨⟩))
    ⊢ wp frame (wpE (defs₀ (F := F)) 𝒱₀ c none) Set.univ (cc1__proj_body i M0 h0 M1 h1 M2 h2) Q := by
  rw [cc1__proj_body_eq_skeleton]
  unfold cc1__proj_body_skel
  simp only [Prog.lift, Prog.bind_op, Prog.bind_ret]
  unfold owns
  iintro ⟨⟨%f0, %e0, H0⟩, ⟨%f1, %e1, H1⟩, ⟨%f2, %e2, H2⟩, Hk⟩
  iapply (wp_load_rect 𝒱₀ (c : Thread nD τ) none Set.univ (m := M0) (r := all0) (M0.view.set_slice_subset _)) $$ H0
  iintro H0
  iapply (wp_load_rect 𝒱₀ (c : Thread nD τ) none Set.univ (m := M1) (r := all1) (M1.view.set_slice_subset _)) $$ H1
  iintro H1
  iapply (wp_load_rect 𝒱₀ (c : Thread nD τ) none Set.univ (m := M2) (r := all2) (M2.view.set_slice_subset _)) $$ H2
  iintro H2
  iapply (wp_store 𝒱₀ (c : Thread nD τ) none Set.univ (m := M2) (r := all2) (M2.view.set_slice_subset _)) $$ H2
  iintro H2
  rw [read_all0, read_all1, e0, e1]
  rw [wp_pure]
  imodintro
  iapply Hk
  isplitl [H0]; · iexists f0; isplitr; · ipureintro; exact e0
                  iexact H0
  isplitl [H1]; · iexists f1; isplitr; · ipureintro; exact e1
                  iexact H1
  iexists _; isplitr [H2]; swap; · iexact H2
  ipureintro; exact read_all2 M2 _ _

/-! ## The eight points -/

section Points

variable (V : (c : Dev nD) → (b : Ref sig .tc) → Buf (Elt F) ((c : Thread nD τ).loc b))

/-- The rows a point reads, and the weight as it reads it. -/
abbrev rowsAt (c : Dev nD) (t : Fin cfg1.N) : Vec F S2048x32 .f32 := ((cfg1.win 0).blk t).view.read (Elt F) (V c main_v12)
abbrev weightAt (c : Dev nD) (t : Fin cfg1.N) : Vec F S32x128 .f32 := ((cfg1.win 1).blk t).view.read (Elt F) (V c main_v13)

/-- The waits the core has made before the region, bounded by their level. -/
def early (c : Dev nD) : Set (SemLoc sig × HIx 1) := {p | (K (F := F)).lev ((c : Thread nD τ), p.1) p.2 ≤ 8}

/-- What each buffer holds around each point. -/
def pdats (_ : Fin 1) (c : Dev nD) : Dat τ (Elt F) (HIx 1) ℕ UU ℕ cfg1 c where
  A w := V c (Pipeline.arrRef spec1 w)
  after w t := match w with
    | ⟨0, _⟩ => rowsAt V c t
    | ⟨1, _⟩ => weightAt V c t
    | ⟨2, _⟩ => k1_pay1 (rowsAt V c t) (weightAt V c t)
    | ⟨_ + 3, h⟩ => absurd h (Nat.not_lt.2 (Nat.le_add_left _ _))
  Φ _ := BI.emp
  q _ := fullShare
  owed _ := 0
  recorded _ := early (F := F) c

theorem pdats_A (c : Dev nD) (w : Fin cfg1.W) : (pdats V 0 c).A w = V c (Pipeline.arrRef spec1 w) := by dsimp only [pdats]

theorem before_rows (c : Dev nD) (t : Fin cfg1.N) (d) : (pdats V 0 c).before 0 t d = rowsAt V c t :=
  ((pdats V 0 c).before_in_eq_fetched 0 rfl (fun _ => rfl) (fun _ _ _ => rfl)
    (fun t => by unfold Dat.blockOf; dsimp only [pdats]) t d).trans (by unfold Dat.fetched Dat.blockOf; dsimp only [pdats]; rfl)

theorem before_weight (c : Dev nD) (t : Fin cfg1.N) (d) : (pdats V 0 c).before 1 t d = weightAt V c t :=
  ((pdats V 0 c).before_in_eq_fetched 1 rfl (fun _ => rfl) (fun _ _ _ => rfl)
    (fun t => by unfold Dat.blockOf; dsimp only [pdats]) t d).trans (by unfold Dat.fetched Dat.blockOf; dsimp only [pdats]; rfl)

theorem proj_obligation (c : Dev nD) : BodyObligation (pdats V 0 c) (defs₀ (F := F)) 𝒱₀ (none : HIx 1) Set.univ := fun t => by
  rw [bigSep_W1, bigSep_W1]
  rw [show (pdats V 0 c).Φ t.castSucc = BI.emp from rfl, show (pdats V 0 c).Φ t.succ = BI.emp from rfl]
  rw [show (pdats V 0 c).owesAt none t.castSucc = (pdats V 0 c).owesAt none t.succ from rfl]
  iintro ⟨-, HO, ⟨%d0, H0⟩, ⟨%d1, H1⟩, ⟨%d2, H2⟩⟩
  rw [before_rows, before_weight]
  iapply (proj_run c (grid1.coords t) (st1_0 t) (hstage1_0 ((cfg1.slots t 0).cast nbuf1_0)) (st1_1 t)
    (hstage1_1 ((cfg1.slots t 1).cast nbuf1_1)) (st1_2 t) (hstage1_2 ((cfg1.slots t 2).cast nbuf1_2))
    (rowsAt V c t) (weightAt V c t) _ _)
  isplitl [H0]; · iexact H0
  isplitl [H1]; · iexact H1
  isplitl [H2]; · iexact H2
  iintro ⟨H0, H1, H2⟩
  isplitr; · iempintro
  isplitl [HO]; · iexact HO
  isplitl [H0]; · iexact H0
  isplitl [H1]; · iexact H1
  iexact H2

/-! ## The result -/

/-- The product of all the pooled rows with the weight. -/
def projected (P : Vec F S16384x32 .f32) (W : Vec F S32x128 .f32) : Vec F S16384x128 .f32 := fun x =>
  k1_pay1 (fun y => P (ValueIdx.ix2 (Fin.ofNat 16384 ((x 0).val / 2048 * 2048 + (y 0).val)) (y 1))) W
    (ValueIdx.ix2 (Fin.ofNat 2048 ((x 0).val % 2048)) (x 1))

theorem point_lt (t : Fin cfg1.N) : t.val < 8 := N_1 ▸ t.isLt

theorem index_rows : ∀ t : Fin cfg1.N, win1_0.index t (0 : Fin 2) = t.val ∧ win1_0.index t (1 : Fin 2) = 0 :=
  (by decide +kernel : ∀ t : Fin grid1.N, _)
theorem index_weight : ∀ t : Fin cfg1.N, win1_1.index t (0 : Fin 2) = 0 ∧ win1_1.index t (1 : Fin 2) = 0 :=
  (by decide +kernel : ∀ t : Fin grid1.N, _)
theorem index_out : ∀ t : Fin cfg1.N, win1_2.index t (0 : Fin 2) = t.val ∧ win1_2.index t (1 : Fin 2) = 0 :=
  (by decide +kernel : ∀ t : Fin grid1.N, _)

theorem emb_rows (t : Fin cfg1.N) (y : S2048x32.Idx) :
    ((cfg1.win 0).blk t).view.emb y = ValueIdx.ix2 (Fin.ofNat 16384 (2048 * t.val + (y 0).val)) (y 1) := by
  obtain ⟨e0, e1⟩ := index_rows t
  have ht := point_lt t
  have hy : (y 0).val < 2048 := (y 0).isLt
  funext a; apply Fin.ext
  match a with
  | ⟨0, _⟩ =>
    show win1_0.index t (0 : Fin 2) * 2048 + 1 * (y 0).val = (2048 * t.val + (y 0).val) % 16384
    omega
  | ⟨1, _⟩ => show win1_0.index t (1 : Fin 2) * 32 + 1 * (y 1).val = (y 1).val; omega

theorem emb_weight (t : Fin cfg1.N) (y : S32x128.Idx) : ((cfg1.win 1).blk t).view.emb y = y := by
  obtain ⟨e0, e1⟩ := index_weight t
  funext a; apply Fin.ext
  match a with
  | ⟨0, _⟩ => show win1_1.index t (0 : Fin 2) * 32 + 1 * (y 0).val = (y 0).val; omega
  | ⟨1, _⟩ => show win1_1.index t (1 : Fin 2) * 128 + 1 * (y 1).val = (y 1).val; omega

theorem emb_out (t : Fin cfg1.N) (y : S2048x128.Idx) :
    ((cfg1.win 2).blk t).view.emb y = ValueIdx.ix2 (Fin.ofNat 16384 (2048 * t.val + (y 0).val)) (y 1) := by
  obtain ⟨e0, e1⟩ := index_out t
  have ht := point_lt t
  have hy : (y 0).val < 2048 := (y 0).isLt
  funext a; apply Fin.ext
  match a with
  | ⟨0, _⟩ =>
    show win1_2.index t (0 : Fin 2) * 2048 + 1 * (y 0).val = (2048 * t.val + (y 0).val) % 16384
    omega
  | ⟨1, _⟩ => show win1_2.index t (1 : Fin 2) * 128 + 1 * (y 1).val = (y 1).val; omega

theorem weightAt_eq (c : Dev nD) (t : Fin cfg1.N) : weightAt V c t = V c main_v13 := by
  funext y
  show V c main_v13 (((cfg1.win 1).blk t).view.emb y) = V c main_v13 y
  rw [emb_weight]

theorem projected_at (P : Vec F S16384x32 .f32) (W : Vec F S32x128 .f32) (t : Fin cfg1.N) (y : S2048x128.Idx) :
    projected P W (ValueIdx.ix2 (Fin.ofNat 16384 (2048 * t.val + (y 0).val)) (y 1))
      = k1_pay1 (fun z => P (((cfg1.win 0).blk t).view.emb z)) W y := by
  have ht := point_lt t
  have hy : (y 0).val < 2048 := (y 0).isLt
  have h0 : (2048 * t.val + (y 0).val) % 16384 = 2048 * t.val + (y 0).val := Nat.mod_eq_of_lt (by omega)
  have hP : (fun z : S2048x32.Idx => P (ValueIdx.ix2 (Fin.ofNat 16384
        ((2048 * t.val + (y 0).val) % 16384 / 2048 * 2048 + (z 0).val)) (z 1)))
      = fun z => P (((cfg1.win 0).blk t).view.emb z) := by
    funext z
    rw [emb_rows, h0, show (2048 * t.val + (y 0).val) / 2048 * 2048 = 2048 * t.val by omega]
    rfl
  have hx : (ValueIdx.ix2 (Fin.ofNat 2048 ((2048 * t.val + (y 0).val) % 16384 % 2048)) (y 1) : S2048x128.Idx) = y := by
    funext a
    match a with
    | ⟨0, _⟩ => exact Fin.ext (show (2048 * t.val + (y 0).val) % 16384 % 2048 % 2048 = (y 0).val by omega)
    | ⟨1, _⟩ => rfl
  exact (congrArg₂ (fun A z => k1_pay1 A W z) hP hx)

theorem flushed_out (c : Dev nD) (t : Fin cfg1.N) :
    (pdats V 0 c).flushed 2 t = ((cfg1.win 2).blk t).view.read (Elt F) (projected (V c main_v12) (V c main_v13)) := by
  have h : (pdats V 0 c).flushed 2 t = k1_pay1 (rowsAt V c t) (weightAt V c t) := rfl
  rw [h, weightAt_eq]
  funext y
  show _ = projected (V c main_v12) (V c main_v13) (((cfg1.win 2).blk t).view.emb y)
  rw [emb_out]
  exact (projected_at (V c main_v12) (V c main_v13) t y).symm

theorem covered_out (x : S16384x128.Idx) :
    ∃ t : Fin cfg1.N, (cfg1.win 2).flush t = true ∧ x ∈ ((cfg1.win 2).blk t).view.set := by
  have hx : (x 0).val < 16384 := (x 0).isLt
  refine ⟨⟨(x 0).val / 2048, by show _ < grid1.N; rw [N_1]; omega⟩, flush1_2 _, ?_⟩
  have h := ((cfg1.win 2).blk (⟨(x 0).val / 2048, by show _ < grid1.N; rw [N_1]; omega⟩ : Fin cfg1.N)).view.emb_mem_set
    (ValueIdx.ix2 (Fin.ofNat 2048 ((x 0).val % 2048)) (x 1) : S2048x128.Idx)
  rw [emb_out] at h
  have he : (ValueIdx.ix2 (Fin.ofNat 16384 (2048 * ((x 0).val / 2048) + (x 0).val % 2048 % 2048)) (x 1) : S16384x128.Idx) = x := by
    funext a
    match a with
    | ⟨0, _⟩ => exact Fin.ext (show (2048 * ((x 0).val / 2048) + (x 0).val % 2048 % 2048) % 16384 = (x 0).val by omega)
    | ⟨1, _⟩ => rfl
  exact (congrArg (· ∈ ((cfg1.win 2).blk _).view.set) he).mp h

theorem final_out (c : Dev nD) : (pdats V 0 c).arrAt 2 cfg1.N = projected (V c main_v12) (V c main_v13) :=
  (pdats V 0 c).arrAt_eq_of_cover 2 _ (fun t _ => flushed_out V c t) covered_out

/-! ## The region as the launch enters it -/

abbrev adm : (p : Fin 1) → (pcfgs (F := F) p).Adm := fun p => (cfgs p).toPCfg_adm

/-- The core owes nothing, its waits so far below the call's end. -/
def settled (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- Entered with every array held, left with the result the product. -/
def projRegion : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (proj_obligation V c).loose
  hwaits := Pipeline.hwaits_of_owed_zero _ _ _ _ (K (F := F)).L (K (F := F)).lev 0 fun _ _ => rfl
  pre c := iprop(unscopedBufs c (V c) ∗ settled c)
  post c := iprop((((c : Thread nD τ).loc main_v14) ↦{fullShare} projected (V c main_v12) (V c main_v13))
    ∗ Pipeline.unscopedRest spec1 c (V c) ∗ settled c)
  X _ := BI.emp
  Y _ := BI.emp
  Z c := Pipeline.unscopedRest spec1 c (V c)
  hentry c := by
    have hsplit := Pipeline.arrays_of_unscopedBufs (pcfgs (F := F)) adm (pdats V) launch1.win launch1.arr_whole c
      ((pdats V 0 c).share_full fun _ => rfl) (V c) (pdats_A V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold settled Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (pdats V 0 c).Φ 0 = BI.emp from rfl, scopedRest1_eq]
    iintro ⟨-, -, Hr⟩
    iexact Hr
  hout c := by
    rw [show (pdats V 0 c).Φ (Fin.last cfg1.N) = BI.emp from rfl, Pipeline.ownSems0_none, scopedRest1_eq]
    iintro -
    isplitr; · iempintro
    isplitr <;> iempintro
  hexit c := by
    rw [Pipeline.arrays_eq (Pipeline.pin (pcfgs (F := F)) adm) (pdats V) 0 c launch1.arr_whole ((pdats V 0 c).share_full fun _ => rfl), bigSep_W1]
    iintro ⟨⟨-, -, Ho⟩, HO, -, HZ⟩
    imodintro
    isplitl [Ho]
    · rw [← final_out V c]; iexact Ho
    isplitl [HZ]; · iexact HZ
    unfold settled Pipeline.Dat.owesAt Pipeline.owesWithin
    icases HO with ⟨%W, %hW, HO⟩; iexists W; isplitr
    · ipureintro
      intro p hp
      rcases hW hp with h | ⟨w, s, h⟩
      · exact h
      · rw [h]; exact Nat.zero_le 8
    iexact HO

end Points

end Cert.Proof.Pool

end
-- ==== Proof.Main.lean ====
/-
  The run of the whole program: the list of half-rows is made, the tiles run, the weight is transposed, the projection
  runs. What its arrays hold at the end.
-/
module

public import proofs.«01_k».proof.Proof.Deal
public import proofs.«01_k».proof.Proof.Region
public import Idealize.ShloMosaic.Lib.StableHlo.Run
public import Idealize.ShloMosaic.Lib.SparseCore.Threads

@[expose] public section

noncomputable section

namespace Cert.Proof.Pool

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig (HIx 1) (Elt F) ℕ UU ℕ

/-! ## The host's operations -/

/-- What the host does before the tiles run. -/
def preparing : List (HloOp τ sig (Elt F)) :=
  [ StableHlo.reshape main_arg0 main_v0 (rfl : (.i32 : EltTy) = .i32) shapeCasts_S16384x20_S327680,
    StableHlo.nullary main_c (constantI S_ 32 2#32),
    StableHlo.unary main_c main_v1 (broadcastInDim S327680 ![] bcast_S_S327680 : (⟨S_, .i32⟩ : BufTy).Contents (Elt F) → (⟨S327680, .i32⟩ : BufTy).Contents (Elt F)),
    StableHlo.binary main_v1 main_v0 main_v2 (muli : (⟨S327680, .i32⟩ : BufTy).Contents (Elt F) → (⟨S327680, .i32⟩ : BufTy).Contents (Elt F) → (⟨S327680, .i32⟩ : BufTy).Contents (Elt F)),
    StableHlo.nullary main_c_0 (constantI S_ 32 2#32),
    StableHlo.unary main_c_0 main_v3 (broadcastInDim S327680 ![] bcast_S_S327680 : (⟨S_, .i32⟩ : BufTy).Contents (Elt F) → (⟨S327680, .i32⟩ : BufTy).Contents (Elt F)),
    StableHlo.binary main_v3 main_v0 main_v4 (muli : (⟨S327680, .i32⟩ : BufTy).Contents (Elt F) → (⟨S327680, .i32⟩ : BufTy).Contents (Elt F) → (⟨S327680, .i32⟩ : BufTy).Contents (Elt F)),
    StableHlo.nullary main_c_1 (constantI S_ 32 1#32),
    StableHlo.unary main_c_1 main_v5 (broadcastInDim S327680 ![] bcast_S_S327680 : (⟨S_, .i32⟩ : BufTy).Contents (Elt F) → (⟨S327680, .i32⟩ : BufTy).Contents (Elt F)),
    StableHlo.binary main_v4 main_v5 main_v6 (addi : (⟨S327680, .i32⟩ : BufTy).Contents (Elt F) → (⟨S327680, .i32⟩ : BufTy).Contents (Elt F) → (⟨S327680, .i32⟩ : BufTy).Contents (Elt F)),
    StableHlo.unary main_v2 main_v7 (broadcastInDim S327680x1 ![0] bcast_S327680_S327680x1_0 : (⟨S327680, .i32⟩ : BufTy).Contents (Elt F) → (⟨S327680x1, .i32⟩ : BufTy).Contents (Elt F)),
    StableHlo.unary main_v6 main_v8 (broadcastInDim S327680x1 ![0] bcast_S327680_S327680x1_0 : (⟨S327680, .i32⟩ : BufTy).Contents (Elt F) → (⟨S327680x1, .i32⟩ : BufTy).Contents (Elt F)),
    StableHlo.binary main_v7 main_v8 main_v9 ((fun a b => concatenate S327680x2 1 [⟨S327680x1, a⟩, ⟨S327680x1, b⟩] concatenates_S327680x1_S327680x1_S327680x2_d1) : (⟨S327680x1, .i32⟩ : BufTy).Contents (Elt F) → (⟨S327680x1, .i32⟩ : BufTy).Contents (Elt F) → (⟨S327680x2, .i32⟩ : BufTy).Contents (Elt F)),
    StableHlo.reshape main_v9 main_v10 (rfl : (.i32 : EltTy) = .i32) shapeCasts_S327680x2_S655360,
    StableHlo.reshape main_arg1 main_v11 (rfl : (.f32 : EltTy) = .f32) shapeCasts_S1000000x32_S2000000x16 ]

/-- The host's transposition of the weight. -/
abbrev turning : HloOp τ sig (Elt F) :=
  StableHlo.unary main_arg2 main_v13 ((transpose S32x128 [1, 0] · transposes_S128x32_S32x128_1_0) : (⟨S128x32, .f32⟩ : BufTy).Contents (Elt F) → (⟨S32x128, .f32⟩ : BufTy).Contents (Elt F))

/-- What follows the tiles' call. -/
def afterTiles (d : Dev nD) : Prog (TpuEff nD τ sig (Elt F) (SparseCore.Sig (ΛP (F := F)) 1) .tc) PUnit := do
  hlo rfl turning (fun _ => .ret ⟨⟩)
  Prog.lift (.customCall (SparseCore.inner (Pipeline.entry 0)) ())
  pure ⟨⟩

theorem main_eq (d : Dev nD) :
    main (F := F) d = (StableHlo.seq preparing >>= fun _ => ((K (F := F)).run d 0 >>= fun _ => afterTiles d)) := by
  rw [StableHlo.seq_bind_seqK]; rfl

theorem preparing_sub : ∀ op ∈ preparing (F := F), op.bufs ⊆ Pipeline.ucRefs τ sig := by
  intro op hop
  refine Pipeline.sub_ucRefs op ?_
  simp only [preparing, List.mem_cons, List.not_mem_nil, or_false] at hop
  rcases hop with rfl | rfl | rfl | rfl | rfl | rfl | rfl | rfl | rfl | rfl | rfl | rfl | rfl | rfl | rfl <;>
    simp only [StableHlo.nullary_bufs_sub, StableHlo.unary_bufs_sub, StableHlo.binary_bufs_sub, StableHlo.reshape_bufs_sub]

theorem preparing_fresh : ∀ op ∈ preparing (F := F), op.fresh = ∅ := by
  intro op hop
  simp only [preparing, List.mem_cons, List.not_mem_nil, or_false] at hop
  rcases hop with rfl | rfl | rfl | rfl | rfl | rfl | rfl | rfl | rfl | rfl | rfl | rfl | rfl | rfl | rfl <;> rfl

theorem turning_sub : (turning (F := F)).bufs ⊆ Pipeline.ucRefs τ sig :=
  Pipeline.sub_ucRefs _ (StableHlo.unary_bufs_sub _ _ _ _ _)

/-! ## The arrays' contents along the run -/

abbrev at10 : DevRef τ sig := Proc.devRef .tc (main_v10 : Ref sig .tc)
abbrev at11 : DevRef τ sig := Proc.devRef .tc (main_v11 : Ref sig .tc)
abbrev at12 : DevRef τ sig := Proc.devRef .tc (main_v12 : Ref sig .tc)

variable (m : (ℓ : Loc nD τ sig) → Buf (Elt F) ℓ) (ρ : Dev nD → PrngReg) (X : (d : Dev nD) → Buf (Elt F) (oLoc d))

/-- As launched. -/
def launched (d : Dev nD) : Valuation τ sig (Elt F) := fun b => m (d, b)
/-- When the tiles are called. -/
def prepared (d : Dev nD) : Valuation τ sig (Elt F) := StableHlo.after preparing (launched m d)
/-- When the tiles are done. -/
def pooledAt (d : Dev nD) : Valuation τ sig (Elt F) := Function.update (prepared m d) at12 (X d)
/-- When the projection is called. -/
def turned (d : Dev nD) : Valuation τ sig (Elt F) := (turning (F := F)).result (pooledAt m X d)

/-- The arrays the tiles work on. -/
def arraysOf (d : Dev nD) : Arrays F d where
  list := prepared m d at10
  rows := prepared m d at11
  before := prepared m d at12
  pooled := X d

/-- The result. -/
def resultOf (d : Dev nD) : Buf (Elt F) ((SparseCore.T d : Thread nD τ).loc main_v14) :=
  projected (X d) ((transpose S32x128 [1, 0] · transposes_S128x32_S32x128_1_0) (m ((SparseCore.T d : Thread nD τ).loc main_arg2)))

abbrev tileRefs : Finset (DevRef τ sig) := {at10, at11, at12}

theorem tileRefs_sub : tileRefs ⊆ Pipeline.ucRefs τ sig := by
  intro b hb
  simp only [tileRefs, Finset.mem_insert, Finset.mem_singleton] at hb
  rcases hb with rfl | rfl | rfl <;>
    exact Finset.mem_filter.mpr ⟨StableHlo.devRef_mem_tcRefs _, by decide⟩

theorem held_tileRefs (d : Dev nD) (W : Valuation τ sig (Elt F)) :
    (StableHlo.held (SparseCore.T d) tileRefs W : sProp 𝕄)
      = iprop((iLoc d ↦{fullShare} W at10) ∗ (xLoc d ↦{fullShare} W at11) ∗ oLoc d ↦{fullShare} W at12) := by
  unfold StableHlo.held tileRefs
  rw [SparseCore.bigSep_insert' (by decide), SparseCore.bigSep_insert' (by decide), bigSep_singleton]

theorem held_before (d : Dev nD) :
    (StableHlo.held (SparseCore.T d) (Pipeline.ucRefs τ sig) (prepared m d) : sProp 𝕄)
      = iprop((bigSep Finset.univ fun c : Fin 2 => bigSep Finset.univ fun s : Fin 16 => tileHands (arraysOf m X) d (arraysOf m X d).before (tileOf c s))
          ∗ StableHlo.held (SparseCore.T d) (Pipeline.ucRefs τ sig \ tileRefs) (prepared m d)) := by
  rw [StableHlo.held_sub_split (SparseCore.T d) tileRefs_sub, held_tileRefs, ← deal (arraysOf m X) d]; rfl

theorem pooledAt_ne (d : Dev nD) {b : DevRef τ sig} (h : b ≠ at12) : pooledAt m X d b = prepared m d b := Function.update_of_ne h _ _

theorem held_after (d : Dev nD) :
    (StableHlo.held (SparseCore.T d) (Pipeline.ucRefs τ sig) (pooledAt m X d) : sProp 𝕄)
      = iprop((bigSep Finset.univ fun c : Fin 2 => bigSep Finset.univ fun s : Fin 16 => tileHands (arraysOf m X) d (arraysOf m X d).pooled (tileOf c s))
          ∗ StableHlo.held (SparseCore.T d) (Pipeline.ucRefs τ sig \ tileRefs) (prepared m d)) := by
  rw [StableHlo.held_sub_split (SparseCore.T d) tileRefs_sub, held_tileRefs, ← deal (arraysOf m X) d,
    pooledAt_ne m X d (show at10 ≠ at12 by decide), pooledAt_ne m X d (show at11 ≠ at12 by decide),
    StableHlo.held_congr (SparseCore.T d) (S := Pipeline.ucRefs τ sig \ tileRefs) (V := pooledAt m X d) (V' := prepared m d) fun b hb =>
      pooledAt_ne m X d fun h => (Finset.mem_sdiff.mp hb).2 (by rw [h]; decide)]
  unfold pooledAt
  rw [Function.update_self]
  rfl

/-- What the host does before the tiles leaves the arguments. -/
theorem prepared_arg (d : Dev nD) (b : Ref sig .tc) (h : b ∈ ([main_arg0, main_arg1, main_arg2] : List (Ref sig .tc))) :
    prepared m d (Proc.devRef .tc b) = m ((SparseCore.T d : Thread nD τ).loc b) := by
  simp only [List.mem_cons, List.not_mem_nil, or_false] at h
  unfold prepared preparing
  rcases h with rfl | rfl | rfl <;> (after_results; rfl)

theorem turned_ne (d : Dev nD) {b : Ref sig .tc} (h : b ≠ main_v13) (h' : b ≠ main_v12) :
    turned m X d (Proc.devRef .tc b) = prepared m d (Proc.devRef .tc b) := by
  unfold turned
  rw [StableHlo.unary_result_ne (h := h), pooledAt_ne m X d (StableHlo.devRef_ne_of_ne h')]

theorem turned_pooled (d : Dev nD) : turned m X d at12 = X d := by
  unfold turned
  rw [StableHlo.unary_result_ne (h := show main_v12 ≠ main_v13 by decide)]
  exact Function.update_self _ _ _

theorem turned_weight (d : Dev nD) : turned m X d (Proc.devRef .tc (main_v13 : Ref sig .tc))
    = (transpose S32x128 [1, 0] · transposes_S128x32_S32x128_1_0) (m ((SparseCore.T d : Thread nD τ).loc main_arg2)) := by
  unfold turned
  rw [StableHlo.unary_result, pooledAt_ne m X d (show Proc.devRef .tc (main_arg2 : Ref sig .tc) ≠ at12 by decide), prepared_arg m d main_arg2 (by decide)]

/-! ## @main on the TensorCore -/

/-- What the pipeline's rounds are at the launch. -/
abbrev ghosts (d : Dev nD) : sProp 𝕄 := iprop(Pipeline.cellsGhost cfgs EP 0 d ∗ Pipeline.toksInit cfgs EP 0 d)

/-- What is kept of the arrays: the arguments as launched, and the result. -/
abbrev kept (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ (SparseCore.T d : Thread nD τ).loc main_v14 ↦{fullShare} resultOf m X d)

/-- The contents when the projection is called, by reference. -/
abbrev atProjection (d : Dev nD) (b : Ref sig .tc) : Buf (Elt F) ((d : Thread nD τ).loc b) := turned m X d (Proc.devRef .tc b)

theorem turned_arg (d : Dev nD) (b : Ref sig .tc) (h : b ∈ ([main_arg0, main_arg1, main_arg2] : List (Ref sig .tc))) :
    atProjection m X d b = m ((SparseCore.T d : Thread nD τ).loc b) := by
  refine (turned_ne m X d ?_ ?_).trans (prepared_arg m d b h) <;>
    (simp only [List.mem_cons, List.not_mem_nil, or_false] at h; rcases h with rfl | rfl | rfl <;> decide)

/-- What the projection leaves, and of it what is kept. -/
theorem keep (d : Dev nD) :
    (projRegion (atProjection m X)).post d ⊢ (iprop(kept m X d ∗ settled d) : sProp 𝕄) := by
  have h0 := turned_arg m X d main_arg0 (by decide)
  have h1 := turned_arg m X d main_arg1 (by decide)
  have h2 := turned_arg m X d main_arg2 (by decide)
  have hr : projected (atProjection m X d main_v12) (atProjection m X d main_v13) = resultOf m X d := by
    unfold resultOf atProjection
    rw [turned_pooled, turned_weight]
  show iprop((((d : Thread nD τ).loc main_v14) ↦{fullShare} projected (atProjection m X d main_v12) (atProjection m X d main_v13))
    ∗ Pipeline.unscopedRest spec1 d (atProjection m X d) ∗ settled d) ⊢ (_ : sProp 𝕄)
  rw [hr, unscopedRest1_eq d (atProjection m X d), h0, h1, h2]
  iintro ⟨Hr, ⟨H0, H1, H2, -⟩, Hs⟩
  isplitr [Hs]
  · isplitl [H0]; · iexact H0
    isplitl [H1]; · iexact H1
    isplitl [H2]; · iexact H2
    iexact Hr
  iexact Hs

theorem called_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret) := rfl

/-- The projection's region as it is called. -/
theorem region_run [∀ e, Nonempty (Elt F e)] (d : Dev nD) (Φ : PUnit → sProp 𝕄) :
    iprop((iprop(boundary (SparseCore.T d : Thread nD τ) ∗ kept m X d ∗ settled d) -∗ Φ ⟨⟩)
        ∗ boundary (SparseCore.T d : Thread nD τ) ∗ StableHlo.held (SparseCore.T d) (Pipeline.ucRefs τ sig) (turned m X d) ∗ settled d
        ∗ levAts (K (F := F)).L (K (F := F)).lev ∗ ghosts d)
      ⊢ wp frame (wpE ((K (F := F)).defs (D (F := F))) 𝒱 (SparseCore.T d : Thread nD τ) none) Set.univ
          (Prog.lift (.customCall (SparseCore.inner (Pipeline.entry 0)) ())) Φ := by
  rw [called_eq]
  have hl := (K (F := F)).wp_liftProg (D (F := F)) 𝒱 (SparseCore.T d : Thread nD τ) Set.univ none
    (.op (.customCall (Pipeline.entry 0) ()) .ret) Φ
  have hw : iprop((iprop(boundary (SparseCore.T d : Thread nD τ) ∗ (projRegion (atProjection m X)).post d)
          -∗ wp frame (wpE (D (F := F)) 𝒱 (SparseCore.T d : Thread nD τ) none) Set.univ (.ret PUnit.unit) Φ)
        ∗ boundary (SparseCore.T d : Thread nD τ) ∗ (projRegion (atProjection m X)).pre d
        ∗ levAts (K (F := F)).L (K (F := F)).lev ∗ ghosts d)
      ⊢ (wp frame (wpE (D (F := F)) 𝒱 (SparseCore.T d : Thread nD τ) none) Set.univ (.op (.customCall (Pipeline.entry 0) ()) .ret) Φ : sProp 𝕄) :=
    Pipeline.RegionSeg.wp (pcfgs (F := F)) adm (pdats (atProjection m X)) (none : HIx 1) cellOf_inj EP defs₀ 𝒱₀
      (K (F := F)).L (K (F := F)).lev (projRegion (atProjection m X)) d none (fun _ h => nomatch h) .ret Φ
  have hk := keep m X d
  have hp : iprop(StableHlo.held (SparseCore.T d) (Pipeline.ucRefs τ sig) (turned m X d) ∗ settled d)
      ⊢ ((projRegion (atProjection m X)).pre d : sProp 𝕄) := by
    rw [show StableHlo.held (SparseCore.T d) (Pipeline.ucRefs τ sig) (turned m X d) = (unscopedBufs d (atProjection m X d) : sProp 𝕄)
      from (Pipeline.unscopedBufs_held d (turned m X d)).symm]
    exact .rfl
  iintro ⟨Hk, Hb, Hh, Hs, Hl, Hg, Ht⟩
  iapply hl
  iapply hw
  isplitl [Hk]
  · iintro ⟨Hb, Hp⟩
    ihave Hp' := hk $$ Hp
    rw [wp_ret]; imodintro
    iapply Hk
    isplitl [Hb]; · iexact Hb
    iexact Hp'
  isplitl [Hb]; · iexact Hb
  isplitl [Hh Hs]
  · iapply hp
    isplitl [Hh] <;> iassumption
  isplitl [Hl]; · iexact Hl
  isplitl [Hg]; · iexact Hg
  iexact Ht

theorem owes_nothing (d : Dev nD) : (K (F := F)).Otc d 1 = (0 : CellTallies nD τ sig (HIx 1)) := by
  unfold SparseCore.Cfg.Otc
  exact Finset.sum_eq_zero fun q _ => if_neg (by have := q.isLt; omega)

/-- After the only call the core owes nothing, and the rest of its state passes by. -/
theorem settle (d : Dev nD) :
    ((K (F := F)).tcSt EH d 1 : sProp 𝕄) ⊢ iprop(settled d ∗ (settled d -∗ (K (F := F)).tcSt EH d 1)) := by
  unfold SparseCore.Cfg.tcSt settled
  rw [owes_nothing]
  iintro ⟨HO, HR⟩
  isplitl [HO]; · iexact HO
  iintro HO
  isplitl [HO]; · iexact HO
  iexact HR

/-- @main on a device's TensorCore. -/
theorem hmain [∀ e, Nonempty (Elt F e)] (κ : GSem nD τ sig → ℕ) (d : Dev nD) :
    iprop((K (F := F)).ctx EH (P (arraysOf m X)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ kept m X d ∗ (K (F := F)).tcEnd d) := by
  unfold SparseCore.Cfg.tcRes SparseCore.Cfg.tcEnd
  rw [show (unscopedBufs d (fun b => m ((SparseCore.T d : Thread nD τ).loc b)) : sProp 𝕄)
      = StableHlo.held (SparseCore.T d) (Pipeline.ucRefs τ sig) (launched m d) from Pipeline.unscopedBufs_held d (launched m d), main_eq]
  have hb : StableHlo.held (SparseCore.T d) (Pipeline.ucRefs τ sig) (StableHlo.after preparing (launched m d)) ⊢ (_ : sProp 𝕄) :=
    Entails.of_eq (held_before m X d)
  have ha := Entails.of_eq (held_after m X d).symm
  have hs : ((K (F := F)).tcSt EH d ((0 : Fin 1).val + 1) : sProp 𝕄) ⊢ _ := settle (F := F) d
  iintro ⟨#Hctx, Hst, ⟨Hb, Hheld, Hts, -⟩, HG⟩
  iapply (StableHlo.wp_seq 𝒱 none Set.univ d (Pipeline.ucRefs τ sig) (fun _ => ((K (F := F)).run d 0 >>= fun _ => afterTiles d))
    preparing preparing_sub preparing_fresh (launched m d)) $$ [Hb Hheld]
  · isplitl [Hb] <;> iassumption
  iintro ⟨Hb, Hheld⟩
  ihave Hh := hb $$ Hheld
  icases Hh with ⟨Htiles, Hrest⟩
  rw [wp_bind]
  iapply ((K (F := F)).wp_run (D (F := F)) 𝒱 (EH := EH) (P := P (arraysOf m X)) κ d 0) $$ [Hst Htiles Hb Hrest Hts HG]
  isplitr; · iexact Hctx
  isplitl [Hst]; · iexact Hst
  isplitl [Htiles]; · iexact Htiles
  iintro ⟨Hst, Hdn⟩
  ihave Hlev := (SparseCore.Cfg.ctx_levAts κ) $$ Hctx
  ihave Hheld := ha $$ [Hdn Hrest]
  · isplitl [Hdn]; · iexact Hdn
    iexact Hrest
  unfold afterTiles
  rw [wp_bind]
  iapply (StableHlo.wp_hlo_within 𝒱 (SparseCore.T d) none Set.univ (op := turning) (S := Pipeline.ucRefs τ sig) turning_sub (V := pooledAt m X d)) $$ [Hb Hheld]
  · isplitl [Hb] <;> iassumption
  iintro ⟨Hb, Hheld⟩
  rw [wp_ret]; imodintro
  rw [wp_bind]
  ihave Hs := hs $$ Hst
  icases Hs with ⟨Hs, Hback⟩
  iapply (region_run m X d _)
  isplitl [Hback Hts]
  · iintro ⟨Hb, Hk, Hs⟩
    rw [wp_pure]; imodintro
    ihave Hst := Hback $$ Hs
    isplitl [Hst]; · iexact Hst
    isplitl [Hk]; · iexact Hk
    isplitl [Hb] <;> iassumption
  isplitl [Hb]; · iexact Hb
  isplitl [Hheld]; · iexact Hheld
  isplitl [Hs]; · iexact Hs
  isplitl [Hlev]; · iexact Hlev
  iexact HG

/-! ## The launch -/

/-- The ghost state the launch takes. -/
def u₀ : UU := (initOf (K (F := F)).hsCells (K (F := F)).hsToks, (initOf (Pipeline.cells cfgs cellOf_inj) (Pipeline.launchToks cfgs cellOf_inj), 1))

variable (A : (d : Dev nD) → Arrays F d)

theorem nothing_dealt :
    (bigSep Finset.univ fun thr : Thread nD τ => bigSep Finset.univ fun q : Fin 1 => (P A).x q thr : sProp 𝕄) = iprop(emp) := by
  rw [show (fun thr : Thread nD τ => (bigSep Finset.univ fun q : Fin 1 => (P A).x q thr : sProp 𝕄)) = fun _ => iprop(emp) from
    funext fun _ => bigSep_univ_of_subsingleton (0 : Fin 1)]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P A).x q thr) := by
  rw [nothing_dealt]
  have h1 : (ownU (u₀ (F := F)) : sProp 𝕄) ⊢ _ := ownU_pair _ _
  have h2 : _ ⊢ (iprop(BI.own ((EP : Emb UP 𝕄) (initOf (Pipeline.cells cfgs cellOf_inj) (Pipeline.launchToks cfgs cellOf_inj))) ∗ _) : sProp 𝕄) :=
    own_pair_emb (embR : Emb (UP × Counters) 𝕄) (initOf (Pipeline.cells cfgs cellOf_inj) (Pipeline.launchToks cfgs cellOf_inj)) 1
  have h3 := Pipeline.fund_ghost cfgs (EP : Emb UP 𝕄) cellOf_inj
  have h4 : iprop((bigSep Finset.univ fun c : Dev nD => bigSep Finset.univ fun p => Pipeline.cellsGhost cfgs EP p c)
          ∗ (bigSep Finset.univ fun c : Dev nD => bigSep Finset.univ fun p => Pipeline.toksInit cfgs EP p c))
        ⊢ (bigSep Finset.univ fun d : Dev nD => ghosts d : sProp 𝕄) := by
    unfold ghosts
    rw [bigSep_sep']
    simp only [bigSep_univ_of_subsingleton (0 : Fin 1)]
    exact .rfl
  iintro Hu
  ihave H := h1 $$ Hu
  icases H with ⟨HH, HR⟩
  ihave H := h2 $$ HR
  icases H with ⟨HP, -⟩
  imod h3 $$ HP with HG
  imodintro
  isplitl [HH]; · iexact HH
  isplitl [HG]; · iapply h4; iexact HG
  iempintro

/-- What the claims read of a device's final state. -/
def ends (d : Dev nD) (s' : Phys nD τ sig (Elt F)) : Prop :=
  s'.mem.mem ((SparseCore.T d : Thread nD τ).loc main_v14) = resultOf m X d
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)

theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(kept m X d ∗ SI s') ⊢ (⌜ends m X d s'⌝ : sProp 𝕄) := by
  iintro ⟨⟨H0, H1, H2, Hr⟩, HSI⟩
  ihave H := (read_whole s' _ _) $$ [H0 HSI]
  · isplitl [H0] <;> iassumption
  icases H with ⟨%h0, HSI⟩
  ihave H := (read_whole s' _ _) $$ [H1 HSI]
  · isplitl [H1] <;> iassumption
  icases H with ⟨%h1, HSI⟩
  ihave H := (read_whole s' _ _) $$ [H2 HSI]
  · isplitl [H2] <;> iassumption
  icases H with ⟨%h2, HSI⟩
  ihave H := (read_whole s' _ _) $$ [Hr HSI]
  · isplitl [Hr] <;> iassumption
  icases H with ⟨%hr, HSI⟩
  ipureintro; exact ⟨hr, h0, h1, h2⟩

/-- What a run ends with. -/
def endsAll (r : PUnit × MemSt nD τ sig (Elt F)) : Prop :=
  (∀ d : Dev nD, r.2.mem ((SparseCore.T d : Thread nD τ).loc main_v14) = resultOf m X d
      ∧ r.2.mem ((SparseCore.T d : Thread nD τ).loc main_arg0) = m ((SparseCore.T d : Thread nD τ).loc main_arg0)
      ∧ r.2.mem ((SparseCore.T d : Thread nD τ).loc main_arg1) = m ((SparseCore.T d : Thread nD τ).loc main_arg1)
      ∧ r.2.mem ((SparseCore.T d : Thread nD τ).loc main_arg2) = m ((SparseCore.T d : Thread nD τ).loc main_arg2))
    ∧ r.2.sem = fun _ => 0

/-- Where the pooled array is what the tiles make of the prepared arrays, the program runs to the projection of it. -/
theorem run_main [∀ e, Nonempty (Elt F e)] (hA : ∀ d, (arraysOf m X d).Ok) :
    θ_run (Cert.KernelIdeal.defs (F := F)) (Cert.KernelIdeal.threads (F := F)) ⟨m, fun _ => 0, ρ⟩ (endsAll m X) :=
  SparseCore.Cfg.θ_run_sc_quiescent (K := K (F := F)) (D := D (F := F)) (𝒱 := 𝒱) (EH := EH) (P := P (arraysOf m X)) (A := ∅) facts v₀
    (fun q hq => match q with | 0 => nomatch hq)
    (fun q _ => match q with | 0 => tileObl (arraysOf m X) hA)
    (fun q _ => match q with | 0 => SparseCore.Cfg.VecSplit.of_plain (vecSplit (arraysOf m X)))
    m ρ main (fun d => ghosts d) (kept m X) (u₀ (F := F)) (sep_elim_left.trans (hu₀ (arraysOf m X))) (hmain m ρ X) (ends m X) (hfin m X)
    (endsAll m X) (fun _ h hz => ⟨h, hz⟩)

end Cert.Proof.Pool

end
-- ==== Proof.Value.lean ====
/-
  What the prepared arrays hold, that a precondition in range makes every word of the list name a half-row, and the
  pooled array the tiles make.
-/
module

public import proofs.«01_k».proof.Proof.Main
public import proofs.«01_k».proof.Pre_in_range
public import proofs.«01_k».proof.Defs
public import proofs.«01_k».proof.Proof.Gen.Pre_in_range
public import Idealize.ShloMosaic.Lib.ReduceAll

@[expose] public section

noncomputable section

namespace Cert.Proof.Pool

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

/-! ## The list and the half-rows -/

/-- The list the host makes of the indices. -/
def halvesList (I : S16384x20.Idx → BitVec 32) : S655360.Idx → BitVec 32 :=
  shapeCast S655360 (concatenate S327680x2 1
    [⟨S327680x1, broadcastInDim S327680x1 ![0] bcast_S327680_S327680x1_0
        (muli (broadcastInDim S327680 ![] bcast_S_S327680 (constantI S_ 32 2#32)) (shapeCast S327680 I shapeCasts_S16384x20_S327680))⟩,
      ⟨S327680x1, broadcastInDim S327680x1 ![0] bcast_S327680_S327680x1_0
        (addi (muli (broadcastInDim S327680 ![] bcast_S_S327680 (constantI S_ 32 2#32)) (shapeCast S327680 I shapeCasts_S16384x20_S327680))
          (broadcastInDim S327680 ![] bcast_S_S327680 (constantI S_ 32 1#32)))⟩]
    concatenates_S327680x1_S327680x1_S327680x2_d1) shapeCasts_S327680x2_S655360

theorem prepared_list (d : Dev nD) : prepared m d at10 = halvesList (m ((SparseCore.T d : Thread nD τ).loc main_arg0)) := by
  unfold prepared preparing
  after_results
  rfl

theorem prepared_rows (d : Dev nD) :
    prepared m d at11 = shapeCast S2000000x16 (m ((SparseCore.T d : Thread nD τ).loc main_arg1)) shapeCasts_S1000000x32_S2000000x16 := by
  unfold prepared preparing
  after_results
  rfl

/-- Of two columns side by side, the first. -/
theorem pair_first (a b : S327680x1.Idx → BitVec 32) (k : Fin 327680) (h : Fin 2) (e : h = 0) :
    concatenate S327680x2 1 [⟨S327680x1, a⟩, ⟨S327680x1, b⟩] concatenates_S327680x1_S327680x1_S327680x2_d1 (ValueIdx.ix2 k h)
      = a (ValueIdx.ix2 k (0 : Fin 1)) := by
  subst e
  exact concatenate_pair_apply_left (t := S327680x2) (s₁ := S327680x1) (s₂ := S327680x1) 1 a b _ _ rfl _ (fun c => by
    match c with
    | ⟨0, _⟩ => rfl
    | ⟨1, _⟩ => rfl)

/-- Of two columns side by side, the second. -/
theorem pair_second (a b : S327680x1.Idx → BitVec 32) (k : Fin 327680) (h : Fin 2) (e : h = 1) :
    concatenate S327680x2 1 [⟨S327680x1, a⟩, ⟨S327680x1, b⟩] concatenates_S327680x1_S327680x1_S327680x2_d1 (ValueIdx.ix2 k h)
      = b (ValueIdx.ix2 k (0 : Fin 1)) := by
  subst e
  exact concatenate_pair_apply_right (t := S327680x2) (s₁ := S327680x1) (s₂ := S327680x1) 1 a b _ _ rfl rfl _ (fun c hc => by
    match c with
    | ⟨0, _⟩ => rfl
    | ⟨1, _⟩ => exact absurd rfl hc) rfl

/-- Word `y` of the list: half `y mod 2` of the row that index `y / 2` names. -/
theorem halvesList_apply (I : S16384x20.Idx → BitVec 32) (y : S655360.Idx) :
    halvesList I y = 2#32 * I (ValueIdx.ix2 (Fin.ofNat 16384 ((y 0).val / 40)) (Fin.ofNat 20 ((y 0).val / 2 % 20)))
      + BitVec.ofNat 32 ((y 0).val % 2) := by
  have hy : (y 0).val < 655360 := (y 0).isLt
  have hflat : ∀ k : Fin 327680, k.val = (y 0).val / 2 → shapeCast S327680 I shapeCasts_S16384x20_S327680 (ValueIdx.ix1 k)
      = I (ValueIdx.ix2 (Fin.ofNat 16384 ((y 0).val / 40)) (Fin.ofNat 20 ((y 0).val / 2 % 20))) := by
    intro k hk
    refine shapeCast_apply _ _ _ _ ?_
    rw [Shape.rowMajor_val_two, Shape.rowMajor_val_one]
    show (y 0).val / 40 % 16384 * 20 + (y 0).val / 2 % 20 % 20 = k.val
    omega
  unfold halvesList
  rw [shapeCast_apply _ _ y (ValueIdx.ix2 (⟨(y 0).val / 2, by omega⟩ : Fin 327680) (⟨(y 0).val % 2, by omega⟩ : Fin 2)) (by
    rw [Shape.rowMajor_val_two, Shape.rowMajor_val_one]
    show (y 0).val / 2 * 2 + (y 0).val % 2 = (y 0).val
    omega)]
  rcases Nat.mod_two_eq_zero_or_one (y 0).val with h | h
  · rw [pair_first _ _ _ _ (Fin.ext h)]
    rw [broadcastInDim_apply _ _ _ _ (ValueIdx.ix1 (⟨(y 0).val / 2, by omega⟩ : Fin 327680)) (fun a => by
      match a with
      | 0 => rfl)]
    show 2#32 * shapeCast S327680 I shapeCasts_S16384x20_S327680 (ValueIdx.ix1 _) = _
    rw [hflat _ rfl, h]
    simp
  · rw [pair_second _ _ _ _ (Fin.ext h)]
    rw [broadcastInDim_apply _ _ _ _ (ValueIdx.ix1 (⟨(y 0).val / 2, by omega⟩ : Fin 327680)) (fun a => by
      match a with
      | 0 => rfl)]
    show 2#32 * shapeCast S327680 I shapeCasts_S16384x20_S327680 (ValueIdx.ix1 _) + 1#32 = _
    rw [hflat _ rfl, h]

/-- Half-row `y` of the table. -/
theorem halfRows_apply (E : S1000000x32.Idx → F .f32) (y : S2000000x16.Idx) :
    shapeCast S2000000x16 E shapeCasts_S1000000x32_S2000000x16 y
      = E (ValueIdx.ix2 (Fin.ofNat 1000000 ((y 0).val / 2)) (Fin.ofNat 32 (16 * ((y 0).val % 2) + (y 1).val))) := by
  have h0 : (y 0).val < 2000000 := (y 0).isLt
  have h1 : (y 1).val < 16 := (y 1).isLt
  refine shapeCast_apply _ _ _ _ ?_
  rw [Shape.rowMajor_val_two, Shape.rowMajor_val_two]
  show (y 0).val / 2 % 1000000 * 32 + (16 * ((y 0).val % 2) + (y 1).val) % 32 = (y 0).val * 16 + (y 1).val
  omega

/-! ## The precondition -/

/-- Every index names a row. -/
def InRange (I : S16384x20.Idx → BitVec 32) : Prop := ∀ x, (I x).toNat < 1000000

theorem inRange_of_fn (I : S16384x20.Idx → BitVec 32) (E : S1000000x32.Idx → F .f32) (W : S128x32.Idx → F .f32)
    (h : Cert.Pre_in_range.fn (F := F) I E W = fun _ => 1#1) : InRange I := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro x
  have e := Host.reduce_andi_all (t := Cert.Pre_in_range.S_) _ _ _ _ default (congrFun h default) x
  replace e : IntOp.andi (IntOp.cmpi .sge (I x) 0#32) (IntOp.cmpi .slt (I x) 1000000#32) = 1#1 := e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Twice an index in range, and one more, do not wrap. -/
theorem halvesList_toNat {I : S16384x20.Idx → BitVec 32} (hI : InRange I) (y : S655360.Idx) :
    (halvesList I y).toNat = 2 * (I (ValueIdx.ix2 (Fin.ofNat 16384 ((y 0).val / 40)) (Fin.ofNat 20 ((y 0).val / 2 % 20)))).toNat
      + (y 0).val % 2 := by
  have h := hI (ValueIdx.ix2 (Fin.ofNat 16384 ((y 0).val / 40)) (Fin.ofNat 20 ((y 0).val / 2 % 20)))
  rw [halvesList_apply]
  simp only [BitVec.toNat_add, BitVec.toNat_mul, BitVec.toNat_ofNat]
  omega

/-! ## The pooled array -/

/-- The part of the list that the bags of chunk `k` read. -/
def chunkList (Lv : S655360.Idx → BitVec 32) (k : ℕ) : S2560.Idx → BitVec 32 := fun y => Lv (ValueIdx.ix1 (Fin.ofNat 655360 (2560 * k + (y 0).val)))

/-- Bag `b`'s sum: its chunk is `b / 64`, and in it it is bag `b mod 64`. -/
def pooledOf (Tv : S2000000x16.Idx → F .f32) (Lv : S655360.Idx → BitVec 32) : S16384x32.Idx → F .f32 := fun x =>
  half (gathered Tv (chunkList Lv ((x 0).val / 64))) ((x 0).val % 64) ((x 1).val / 16) (ValueIdx.ix1 (Fin.ofNat 16 ((x 1).val % 16)))

/-- A tile's list of a chunk is the part of the list of that chunk of its eight. -/
theorem listVal_eq (i : grid0.Coords) (d : Dev nD) (Lv : Buf (Elt F) (iLoc d)) (c : Fin 8) :
    listVal i d iMem Lv c = chunkList Lv (8 * (number i).val + c.val) := by
  funext y
  have hy : (y 0).val < 2560 := (y 0).isLt
  have hn := (number i).isLt
  have hc := c.isLt
  have ho : k0_off1 i (BitVec.ofNat 32 (2560 * c.val)) 0 = 40960 * (i 1).val + 20480 * (i 0).val + 2560 * c.val := by rw [k0_off1_eq]; rfl
  refine congrArg Lv (funext fun a => Fin.ext ?_)
  match a with
  | 0 =>
    show k0_off1 i (BitVec.ofNat 32 (2560 * c.val)) 0 + 1 * (y 0).val = (2560 * (8 * (2 * (i 1).val + (i 0).val) + c.val) + (y 0).val) % 655360
    rw [ho]
    have : 2 * (i 1).val + (i 0).val < 32 := hn
    omega

theorem block_read (i : grid0.Coords) (d : Dev nD) (X : Buf (Elt F) (oLoc d)) (x : S512x32.Idx) :
    (blockOf i oMem).view.read (Elt F) X x = X (ValueIdx.ix2 (Fin.ofNat 16384 (512 * (number i).val + (x 0).val)) (x 1)) := by
  have hx : (x 0).val < 512 := (x 0).isLt
  have hn := (number i).isLt
  refine congrArg X (funext fun a => Fin.ext ?_)
  match a with
  | 0 =>
    show k0_off42 i 0 + 1 * (x 0).val = (512 * (2 * (i 1).val + (i 0).val) + (x 0).val) % 16384
    rw [show k0_off42 i 0 = 1024 * (i 1).val + 512 * (i 0).val by rw [k0_off42_eq]; rfl]
    have : 2 * (i 1).val + (i 0).val < 32 := hn
    omega
  | 1 =>
    show k0_off42 i 1 + 1 * (x 1).val = (x 1).val
    rw [show k0_off42 i 1 = 0 by rw [k0_off42_eq]; rfl]
    omega

/-- The pooled array of the launch's arguments. -/
def pooledArr (d : Dev nD) : Buf (Elt F) (oLoc d) := pooledOf (prepared m d at11) (prepared m d at10)

/-- With every index in range the tiles do as the launch asks. -/
theorem arrays_ok (d : Dev nD) (hI : InRange (m ((SparseCore.T d : Thread nD τ).loc main_arg0))) : (arraysOf m (pooledArr m) d).Ok := by
  intro i
  have hn := (number i).isLt
  refine ⟨fun c x => ?_, fun c x t ht hx => ?_⟩
  · rw [listVal_eq]
    show (prepared m d at10 _ : BitVec 32).toNat < 2000000
    rw [prepared_list, halvesList_toNat hI]
    have := hI (ValueIdx.ix2 (Fin.ofNat 16384 (((ValueIdx.ix1 (Fin.ofNat 655360 (2560 * (8 * (number i).val + c.val) + (x 0).val)) : S655360.Idx) 0).val / 40))
      (Fin.ofNat 20 (((ValueIdx.ix1 (Fin.ofNat 655360 (2560 * (8 * (number i).val + c.val) + (x 0).val)) : S655360.Idx) 0).val / 2 % 20)))
    omega
  · have hc := c.isLt
    rw [block_read, listVal_eq]
    show pooledOf (prepared m d at11) (prepared m d at10) _ = _
    unfold pooledOf
    have e0 : ((ValueIdx.ix2 (Fin.ofNat 16384 (512 * (number i).val + (x 0).val)) (x 1) : S16384x32.Idx) 0).val = 64 * (8 * (number i).val + c.val) + t := by
      show (512 * (number i).val + (x 0).val) % 16384 = _
      omega
    rw [e0, show (64 * (8 * (number i).val + c.val) + t) / 64 = 8 * (number i).val + c.val by omega,
      show (64 * (8 * (number i).val + c.val) + t) % 64 = t by omega]
    rfl

end Cert.Proof.Pool

end
-- ==== Proof.Frames.lean ====
/-
  The three frames: each program ends, its arguments as they were and every counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Value

@[expose] public section

noncomputable section

namespace Cert.Proof

open Idealize.ShloMosaic Idealize.SL.Sem

/-- The kernel's run over any float values, from indices in range. -/
theorem run_in_range {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ d, Pool.InRange (m ((SparseCore.T d : Thread Cert.KernelIdeal.nD Cert.KernelIdeal.τ).loc Cert.KernelIdeal.main_arg0))) :
    θ_run (Cert.KernelIdeal.defs (F := F)) (Cert.KernelIdeal.threads (F := F)) ⟨m, fun _ => 0, ρ⟩
      (Pool.endsAll m (Pool.pooledArr m)) :=
  Pool.run_main m ρ (Pool.pooledArr m) (fun d => Pool.arrays_ok m d (h d))

section Same

variable {F : FTy → Type} [FloatOps F]

set_option maxHeartbeats 2000000 in
/-- The two printed programs' bodies are the same text. -/
theorem bodies_same : Cert.Kernel.defs₀ (F := F) = Cert.KernelIdeal.defs₀ (F := F) := by
  funext p l a
  match p, l, a with
  | .scVector c s, 0, _ => rfl
  | .tc, 1, (t, s) => rfl
  | .tc, 0, _ => rfl
  | .scVector c s, 1, a => rfl
  | .scScalar c, 0, a => rfl
  | .scScalar c, 1, a => rfl

/-- So are their body tables. -/
theorem defs_same : Cert.Kernel.defs (F := F) = Cert.KernelIdeal.defs (F := F) := by
  unfold Cert.Kernel.defs Cert.KernelIdeal.defs
  exact congrArg (fun d => SparseCore.Cfg.defs (Cert.Kernel.sc (F := F)) (Pipeline.defs Cert.Kernel.pcfgs d)) bodies_same

end Same

/-- `Cert.quiescent_Kernel`: the run at the bit-exact floats. -/
theorem frame_kernel : Cert.quiescent_Kernel := by
  intro m ρ h
  rw [show Cert.Kernel.defs (F := Bits) = Cert.KernelIdeal.defs (F := Bits) from defs_same]
  exact (θ_run (Cert.KernelIdeal.defs (F := Bits)) (Cert.KernelIdeal.threads (F := Bits)) ⟨m, fun _ => 0, ρ⟩).mono
    (fun _ h => show _ ∧ _ from ⟨fun c => (h.1 c).2, h.2⟩)
    (run_in_range (F := Bits) m ρ (fun d => Pool.inRange_of_fn _ _ _ (h d)))

/-- `Cert.quiescent_KernelIdeal`: the run at the extended reals. -/
theorem frame_ideal : Cert.quiescent_KernelIdeal := fun m ρ h =>
  (θ_run Cert.KernelIdeal.defs _ _).mono (fun _ h => ⟨fun c => (h.1 c).2, h.2⟩)
    (run_in_range (F := Ideal) m ρ (fun d => Pool.inRange_of_fn _ _ _ (h d)))

/-- `Cert.quiescent_ReferenceIdeal`: the reference's host operations; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Pooling.lean ====
/-
  Over the extended reals: what the tiles pool is, for each bag and column, the sum of the twenty named rows there.
-/
module

public import proofs.«01_k».proof.Proof.Value
public import Idealize.ShloMosaic.PureOps.Ideal.Laws

@[expose] public section

noncomputable section

namespace Cert.Proof.Pool

open Idealize.ShloMosaic
open Cert.KernelIdeal Cert.KernelIdeal.Gen
open scoped BigOperators

/-- The row of the table that index `j` of bag `b` names, at column `c`. -/
def named (I : S16384x20.Idx → BitVec 32) (E : S1000000x32.Idx → EReal) (b j c : ℕ) : EReal :=
  E (ValueIdx.ix2 (Fin.ofNat 1000000 (I (ValueIdx.ix2 (Fin.ofNat 16384 b) (Fin.ofNat 20 j))).toNat) (Fin.ofNat 32 c))

/-- An accumulator is the sum of the rows it has taken. -/
theorem acc_sum (R : S2560x16.Idx → Ideal .f32) (t k n : ℕ) (x : S16.Idx) :
    acc R t k n x = ∑ i ∈ Finset.range (n + 1), (rowVec R (40 * t + 4 * i + k) x : EReal) := by
  induction n with
  | zero => rw [Finset.sum_range_one]; rfl
  | succ n ih =>
    rw [Finset.sum_range_succ, ← ih]
    rfl

/-- The even terms and the odd terms are all the terms. -/
theorem sum_even_odd (f : ℕ → EReal) (n : ℕ) :
    ∑ i ∈ Finset.range n, f (2 * i) + ∑ i ∈ Finset.range n, f (2 * i + 1) = ∑ j ∈ Finset.range (2 * n), f j := by
  induction n with
  | zero => simp
  | succ n ih =>
    rw [Finset.sum_range_succ, Finset.sum_range_succ, show 2 * (n + 1) = 2 * n + 1 + 1 by ring, Finset.sum_range_succ,
      Finset.sum_range_succ, ← ih, add_add_add_comm, ← add_assoc]

/-- Row `r` of bag `b`'s forty half-rows: half `r mod 2` of the row that index `r / 2` names. -/
theorem gathered_row (I : S16384x20.Idx → BitVec 32) (E : S1000000x32.Idx → Ideal .f32) (hI : InRange I) (b r : ℕ) (hb : b < 16384)
    (hr : r < 40) (z : Fin 16) :
    rowVec (gathered (shapeCast S2000000x16 E shapeCasts_S1000000x32_S2000000x16) (chunkList (halvesList I) (b / 64)))
        (40 * (b % 64) + r) (ValueIdx.ix1 z)
      = named I E b (r / 2) (16 * (r % 2) + z.val) := by
  have hz := z.isLt
  have hword : (chunkList (halvesList I) (b / 64) (ValueIdx.ix1 (Fin.ofNat 2560 (40 * (b % 64) + r)))).toNat
      = 2 * (I (ValueIdx.ix2 (Fin.ofNat 16384 b) (Fin.ofNat 20 (r / 2)))).toNat + r % 2 := by
    unfold chunkList
    rw [halvesList_toNat hI]
    have e : ((ValueIdx.ix1 (Fin.ofNat 655360 (2560 * (b / 64) + ((ValueIdx.ix1 (Fin.ofNat 2560 (40 * (b % 64) + r)) : S2560.Idx) 0).val)) : S655360.Idx) 0).val
        = 40 * b + r := by
      show (2560 * (b / 64) + (40 * (b % 64) + r) % 2560) % 655360 = _
      omega
    rw [e, show (40 * b + r) / 40 = b by omega, show (40 * b + r) / 2 % 20 = r / 2 by omega, show (40 * b + r) % 2 = r % 2 by omega]
  have hlt := hI (ValueIdx.ix2 (Fin.ofNat 16384 b) (Fin.ofNat 20 (r / 2)))
  show shapeCast S2000000x16 E shapeCasts_S1000000x32_S2000000x16
    (ValueIdx.ix2 ⟨(chunkList (halvesList I) (b / 64) (ValueIdx.ix1 (Fin.ofNat 2560 (40 * (b % 64) + r)))).toNat % 2000000, _⟩ z) = _
  rw [halfRows_apply]
  refine congrArg E (funext fun a => Fin.ext ?_)
  match a with
  | 0 =>
    show (chunkList (halvesList I) (b / 64) (ValueIdx.ix1 (Fin.ofNat 2560 (40 * (b % 64) + r)))).toNat % 2000000 / 2 % 1000000
      = (I (ValueIdx.ix2 (Fin.ofNat 16384 b) (Fin.ofNat 20 (r / 2)))).toNat % 1000000
    rw [hword]
    omega
  | 1 =>
    show (16 * ((chunkList (halvesList I) (b / 64) (ValueIdx.ix1 (Fin.ofNat 2560 (40 * (b % 64) + r)))).toNat % 2000000 % 2) + z.val) % 32
      = (16 * (r % 2) + z.val) % 32
    rw [hword]
    omega

/-- An accumulator of half `h` that starts at index `p`: the rows that indices `p`, `p + 2`, …, `p + 18` name. -/
theorem acc_named (I : S16384x20.Idx → BitVec 32) (E : S1000000x32.Idx → Ideal .f32) (hI : InRange I) (b h p : ℕ) (hb : b < 16384)
    (hh : h < 2) (hp : p < 2) (z : Fin 16) :
    acc (gathered (shapeCast S2000000x16 E shapeCasts_S1000000x32_S2000000x16) (chunkList (halvesList I) (b / 64))) (b % 64) (h + 2 * p) 9
        (ValueIdx.ix1 z)
      = ∑ i ∈ Finset.range 10, named I E b (2 * i + p) (16 * h + z.val) := by
  rw [acc_sum]
  refine Finset.sum_congr rfl fun i hi => ?_
  have hi' : i < 10 := Finset.mem_range.mp hi
  rw [show 40 * (b % 64) + 4 * i + (h + 2 * p) = 40 * (b % 64) + (4 * i + (h + 2 * p)) by omega,
    gathered_row I E hI b _ hb (by omega) z, show (4 * i + (h + 2 * p)) / 2 = 2 * i + p by omega,
    show (4 * i + (h + 2 * p)) % 2 = h by omega]

/-- The pooled array at bag `b` and column `c`: the sum over the bag's twenty indices of their rows there. -/
theorem pooled_sum (I : S16384x20.Idx → BitVec 32) (E : S1000000x32.Idx → Ideal .f32) (hI : InRange I) (x : S16384x32.Idx) :
    pooledOf (shapeCast S2000000x16 E shapeCasts_S1000000x32_S2000000x16) (halvesList I) x
      = ∑ j ∈ Finset.range 20, named I E (x 0).val j (x 1).val := by
  have h0 : (x 0).val < 16384 := (x 0).isLt
  have h1 : (x 1).val < 32 := (x 1).isLt
  have e0 := acc_named I E hI (x 0).val ((x 1).val / 16) 0 h0 (by omega) (by omega) (Fin.ofNat 16 ((x 1).val % 16))
  have e1 := acc_named I E hI (x 0).val ((x 1).val / 16) 1 h0 (by omega) (by omega) (Fin.ofNat 16 ((x 1).val % 16))
  have hc : 16 * ((x 1).val / 16) + (Fin.ofNat 16 ((x 1).val % 16)).val = (x 1).val := by
    show 16 * ((x 1).val / 16) + (x 1).val % 16 % 16 = _
    omega
  rw [hc] at e0 e1
  rw [← sum_even_odd (fun j => named I E (x 0).val j (x 1).val) 10]
  exact congrArg₂ (fun a b : EReal => a + b) e0 e1

end Cert.Proof.Pool

end
-- ==== Proof.Plain.lean ====
/-
  Over the extended reals: the reference's rows, taken and summed, read at an index.
-/
module

public import proofs.«01_k».proof.Proof.Pooling
public import proofs.«01_k».proof.Proof.Gen.ReferenceIdeal
public import Idealize.ShloMosaic.Lib.IdealHost
public import Idealize.ShloMosaic.Lib.ReduceAll
public import Idealize.ShloMosaic.Lib.Pointwise.Reduce

@[expose] public section

noncomputable section

namespace Cert.Proof.Plain

open Idealize.ShloMosaic
open Cert.ReferenceIdeal Cert.ReferenceIdeal.Gen
open Cert.Proof.Pool (InRange)
open scoped BigOperators

/-- Index `b` of bag `a`. -/
abbrev spot (a : Fin 16384) (b : Fin 20) : S16384x20.Idx := ValueIdx.ix2 a b

/-- Where the gather reads its row's number for index `b` of bag `a`. -/
abbrev start (a : Fin 16384) (b : Fin 20) : S16384x20x1.Idx := ValueIdx.ix3 a b (0 : Fin 1)

/-- The indices as the take reads them: a negative one counted from the end. -/
def wrapped (I : S16384x20.Idx → BitVec 32) : S16384x20x1.Idx → BitVec 32 :=
  broadcastInDim S16384x20x1 ![0, 1] bcast_S16384x20_S16384x20x1_0_1
    (select (cmpi .slt I (broadcastInDim S16384x20 ![] bcast_S_S16384x20 (constantI S_ 32 0#32)))
      (addi I (broadcastInDim S16384x20 ![] bcast_S_S16384x20 (constantI S_ 32 1000000#32))) I)

/-- Whether an index names a row. -/
def inside (I : S16384x20.Idx → BitVec 32) : S16384x20.Idx → BitVec 1 :=
  Host.reduce IntOp.andi
    (andi (cmpi .sge (wrapped I) (broadcastInDim S16384x20x1 ![] bcast_S_S16384x20x1 (constantI S_ 32 0#32)))
      (cmpi .sle (wrapped I) (broadcastInDim S16384x20x1 ![0, 1, 2] bcast_S1x1x1_S16384x20x1_0_1_2
        (broadcastInDim S1x1x1 ![2] bcast_S1_S1x1x1_2 (constantI S1 32 999999#32)))))
    (constantI S_ 1 1#1) reducesTo_S16384x20x1_S16384x20_d2 h_S_

/-- The rows taken. -/
def taken (I : S16384x20.Idx → BitVec 32) (E : FVec Ideal S1000000x32 .f32) : FVec Ideal S16384x20x32 .f32 :=
  select (broadcastInDim S16384x20x32 ![0, 1] bcast_S16384x20_S16384x20x32_0_1 (inside I))
    (Host.gather gather_S1000000x32_S16384x20x1_S16384x20x32_2_0_n_n_0_2_132 E (wrapped I))
    (broadcastInDim S16384x20x32 ![] bcast_S_S16384x20x32 (constant S_ .f32 0x7FC00000#32))

/-- Their sum over a bag. -/
def summed (I : S16384x20.Idx → BitVec 32) (E : FVec Ideal S1000000x32 .f32) : FVec Ideal S16384x32 .f32 :=
  Host.reduceAdd (taken I E) (constant S_ .f32 0x00000000#32) reducesTo_S16384x20x32_S16384x32_d1 h_S_

/-- A selection reads its first operand where the mask is one. -/
theorem select_one {s : Shape} {α : Type} (c : s.Idx → BitVec 1) (a b : s.Idx → α) (y : s.Idx) (h : c y = 1#1) : select c a b y = a y :=
  if_pos h

/-- A selection reads its second operand where the mask is zero. -/
theorem select_zero {s : Shape} {α : Type} (c : s.Idx → BitVec 1) (a b : s.Idx → α) (y : s.Idx) (h : c y = 0#1) : select c a b y = b y :=
  if_neg (by rw [h]; decide)

/-- An index in range is read as it is. -/
theorem wrapped_apply (I : S16384x20.Idx → BitVec 32) (hI : InRange I) (y : S16384x20x1.Idx) :
    wrapped I y = I (spot (y 0) (y 1)) := by
  unfold wrapped
  rw [broadcastInDim_apply _ _ _ _ (spot (y 0) (y 1)) (fun a => by
    match a with
    | 0 => rfl
    | 1 => rfl)]
  have h := hI (spot (y 0) (y 1))
  have hc : IntOp.cmpi .slt (I (spot (y 0) (y 1))) 0#32 = 0#1 := by
    have hs : BitVec.slt (I (spot (y 0) (y 1))) 0#32 = false := by
      simp only [BitVec.slt_eq_decide, decide_eq_false_iff_not, BitVec.toInt_eq_toNat_cond, BitVec.toNat_ofNat, Nat.reducePow, Nat.reduceMod]
      omega
    simp only [IntOp.cmpi, hs]
    rfl
  exact select_zero _ _ _ _ hc

/-- Every index in range names a row. -/
theorem inside_one (I : S16384x20.Idx → BitVec 32) (hI : InRange I) (y : S16384x20.Idx) : inside I y = 1#1 := by
  unfold inside
  refine Host.reduce_andi_one _ _ _ _ _ rfl fun i => ?_
  have h := hI (spot (i 0) (i 1))
  show IntOp.andi (IntOp.cmpi .sge (wrapped I i) 0#32) (IntOp.cmpi .sle (wrapped I i) 999999#32) = 1#1
  rw [wrapped_apply I hI]
  have hs : BitVec.sle 0#32 (I (spot (i 0) (i 1))) = true := by
    simp only [BitVec.sle_eq_decide, decide_eq_true_eq, BitVec.toInt_eq_toNat_cond, BitVec.toNat_ofNat, Nat.reducePow, Nat.reduceMod]
    omega
  have ht : BitVec.sle (I (spot (i 0) (i 1))) 999999#32 = true := by
    simp only [BitVec.sle_eq_decide, decide_eq_true_eq, BitVec.toInt_eq_toNat_cond, BitVec.toNat_ofNat, Nat.reducePow, Nat.reduceMod]
    omega
  simp only [IntOp.cmpi, hs, ht]
  decide

/-- A gathered row at a column: the start index, read signed and kept in the table, is the row. -/
theorem gather_row (E : FVec Ideal S1000000x32 .f32) (W : S16384x20x1.Idx → BitVec 32) (y : S16384x20x32.Idx) :
    Host.gather gather_S1000000x32_S16384x20x1_S16384x20x32_2_0_n_n_0_2_132 E W y
      = E (ValueIdx.ix2 ⟨min (W (start (y 0) (y 1))).toInt.toNat 999999, by omega⟩ (y 2)) := by
  unfold Host.gather
  refine congrArg E (funext fun a => Fin.ext ?_)
  match a with
  | 0 =>
    show GatherDims.start _ y W 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl)), Nat.add_zero]
    unfold GatherDims.start
    rw [dif_pos (show (0 : Fin 2) ∈ gather_S1000000x32_S16384x20x1_S16384x20x32_2_0_n_n_0_2_132.startIndexMap from List.mem_singleton.mpr rfl)]
    refine congrArg (fun w : BitVec 32 => min w.toInt.toNat 999999) (congrArg W (funext fun b => Fin.ext ?_))
    match b with
    | 0 => rfl
    | 1 => rfl
    | 2 => rfl
  | 1 =>
    show GatherDims.start _ y W 1 + GatherDims.batchCoord _ y 1 + GatherDims.offCoord _ y 1 = (y 2).val
    rw [GatherDims.batchCoord_eq_zero _ _ _ List.not_mem_nil]
    have h1 : (1 : Fin 2) ∉ gather_S1000000x32_S16384x20x1_S16384x20x32_2_0_n_n_0_2_132.startIndexMap := by
      intro h
      exact absurd (List.mem_singleton.mp h) (by decide)
    unfold GatherDims.start
    rw [dif_neg h1, Nat.zero_add]
    unfold GatherDims.offCoord
    rw [dif_pos ((GatherDims.mem_sKept _ _).mpr ⟨h1, List.not_mem_nil⟩)]
    rfl

/-- What is taken of a bag, at an index of it and a column, is the row that the index names. -/
theorem taken_apply (I : S16384x20.Idx → BitVec 32) (E : FVec Ideal S1000000x32 .f32) (hI : InRange I) (y : S16384x20x32.Idx) :
    taken I E y = Pool.named I E (y 0).val (y 1).val (y 2).val := by
  have h0 : (y 0).val < 16384 := (y 0).isLt
  have h1 : (y 1).val < 20 := (y 1).isLt
  have h2 : (y 2).val < 32 := (y 2).isLt
  have hm : broadcastInDim S16384x20x32 ![0, 1] bcast_S16384x20_S16384x20x32_0_1 (inside I) y = 1#1 := by
    rw [broadcastInDim_apply _ _ _ _ (spot (y 0) (y 1)) (fun a => by
      match a with
      | 0 => rfl
      | 1 => rfl)]
    exact inside_one I hI _
  unfold taken
  rw [select_one _ _ _ y hm, gather_row]
  have e : spot (y 0) (y 1) = ValueIdx.ix2 (Fin.ofNat 16384 (y 0).val) (Fin.ofNat 20 (y 1).val) := by
    refine funext fun a => Fin.ext ?_
    match a with
    | 0 => exact (Nat.mod_eq_of_lt h0).symm
    | 1 => exact (Nat.mod_eq_of_lt h1).symm
  have hw : wrapped I (start (y 0) (y 1)) = I (ValueIdx.ix2 (Fin.ofNat 16384 (y 0).val) (Fin.ofNat 20 (y 1).val)) := by
    rw [wrapped_apply I hI]
    exact congrArg I e
  have h := hI (ValueIdx.ix2 (Fin.ofNat 16384 (y 0).val) (Fin.ofNat 20 (y 1).val))
  unfold Pool.named
  refine congrArg E (funext fun a => Fin.ext ?_)
  match a with
  | 0 =>
    show min (wrapped I (start (y 0) (y 1))).toInt.toNat 999999
      = (I (ValueIdx.ix2 (Fin.ofNat 16384 (y 0).val) (Fin.ofNat 20 (y 1).val))).toNat % 1000000
    rw [hw, BitVec.toInt_eq_toNat_cond]
    simp only [Nat.reducePow]
    omega
  | 1 => exact (Nat.mod_eq_of_lt h2).symm

/-- The bag's sum at a column. -/
theorem summed_apply (I : S16384x20.Idx → BitVec 32) (E : FVec Ideal S1000000x32 .f32) (hI : InRange I) (x : S16384x32.Idx) :
    summed I E x = ∑ j ∈ Finset.range 20, Pool.named I E (x 0).val j (x 1).val := by
  unfold summed
  rw [ValueIdx.hostReduceAdd_apply, Ideal.hostReduceAdd_r3_a1]
  rw [show (constant S_ .f32 0x00000000#32 : FVec Ideal S_ .f32) (Shape.Idx.first h_S_) = (0 : EReal) from Ideal.ofBits_zero_f32, zero_add,
    Finset.sum_range]
  exact Finset.sum_congr rfl fun k _ => taken_apply I E hI _

end Cert.Proof.Plain

end
-- ==== Proof.Product.lean ====
/-
  Over the extended reals: the blocks' products with the weight are the one product with it, and so the kernel's result
  is the reference's.
-/
module

public import proofs.«01_k».proof.Proof.Plain
public import Idealize.ShloMosaic.Lib.MatmulPlain
public import Idealize.ShloMosaic.Lib.StackMember

@[expose] public section

noncomputable section

namespace Cert.Proof.Plain

open Idealize.ShloMosaic
open Cert.ReferenceIdeal Cert.ReferenceIdeal.Gen
open Cert.Proof.Pool (InRange)
open scoped BigOperators

theorem block_product : Cert.KernelIdeal.dot_S2048x32_S32x128_S2048x128_1_0_0_1_n_n = DotDims.plain 2048 32 128 := rfl

theorem whole_product : dot_S16384x32_S32x128_S16384x128_1_0_0_1_n_n = DotDims.plain 16384 32 128 := rfl

/-- One block's product at a row and a column. -/
theorem block_apply (P : FVec Ideal Cert.KernelIdeal.S2048x32 .f32) (W : FVec Ideal S32x128 .f32) (r : Fin 2048) (c : Fin 128) :
    Cert.KernelIdeal.Gen.k1_pay1 (F := Ideal) P W (ValueIdx.ix2 r c)
      = ∑ k : Fin 32, (P (ValueIdx.ix2 r k) : EReal) * W (ValueIdx.ix2 k c) := by
  unfold Cert.KernelIdeal.Gen.k1_pay1
  rw [block_product]
  refine (Ideal.matmul_plain_apply none _ _ _ r c).trans ?_
  rw [show (constant Cert.KernelIdeal.S2048x128 .f32 0x00000000#32 : FVec Ideal Cert.KernelIdeal.S2048x128 .f32) (ValueIdx.ix2 r c)
    = (0 : EReal) from Ideal.ofBits_zero_f32, zero_add]
  refine Finset.sum_congr rfl fun k _ => ?_
  rw [shapeCast_apply _ _ (ValueIdx.ix2 k c) (ValueIdx.ix2 k c) rfl]

/-- The blocks' products, put together, at a row and a column. -/
theorem projected_apply (P : FVec Ideal S16384x32 .f32) (W : FVec Ideal S32x128 .f32) (x : S16384x128.Idx) :
    Pool.projected (F := Ideal) P W x
      = ∑ k : Fin 32, (P (ValueIdx.ix2 (Fin.ofNat 16384 (x 0).val) k) : EReal) * W (ValueIdx.ix2 k (Fin.ofNat 128 (x 1).val)) := by
  have h0 : (x 0).val < 16384 := (x 0).isLt
  have h1 : (x 1).val < 128 := (x 1).isLt
  have e1 : (x 1 : Fin 128) = Fin.ofNat 128 (x 1).val := Fin.ext (Nat.mod_eq_of_lt h1).symm
  unfold Pool.projected
  refine (block_apply _ _ (Fin.ofNat 2048 ((x 0).val % 2048)) (x 1)).trans ?_
  refine Finset.sum_congr rfl fun k _ => ?_
  refine congrArg₂ (fun a b : EReal => a * b) (congrArg P (funext fun a => Fin.ext ?_)) (congrArg (fun c : Fin 128 => W (ValueIdx.ix2 k c)) e1)
  match a with
  | 0 =>
    show ((x 0).val / 2048 * 2048 + (x 0).val % 2048 % 2048) % 16384 = (x 0).val % 16384
    omega
  | 1 => rfl

/-- The one product at a row and a column. -/
theorem whole_apply (P : FVec Ideal S16384x32 .f32) (W : FVec Ideal S32x128 .f32) (x : S16384x128.Idx) :
    Host.dotGeneral dot_S16384x32_S32x128_S16384x128_1_0_0_1_n_n none P W x
      = ∑ k : Fin 32, (P (ValueIdx.ix2 (Fin.ofNat 16384 (x 0).val) k) : EReal) * W (ValueIdx.ix2 k (Fin.ofNat 128 (x 1).val)) := by
  have h0 : (x 0).val < 16384 := (x 0).isLt
  have h1 : (x 1).val < 128 := (x 1).isLt
  have ex : x = ValueIdx.ix2 (Fin.ofNat 16384 (x 0).val) (Fin.ofNat 128 (x 1).val) := by
    refine funext fun a => Fin.ext ?_
    match a with
    | 0 => exact (Nat.mod_eq_of_lt h0).symm
    | 1 => exact (Nat.mod_eq_of_lt h1).symm
  rw [whole_product]
  exact (congrArg _ ex).trans (StackMember.dotGeneral_plain_apply none P W (Fin.ofNat 16384 (x 0).val) (Fin.ofNat 128 (x 1).val))

/-- The projection of the tiles' pooled array is the one product with the bags' sums. -/
theorem result_eq (I : S16384x20.Idx → BitVec 32) (E : FVec Ideal S1000000x32 .f32) (W : FVec Ideal S32x128 .f32) (hI : InRange I) :
    Pool.projected (F := Ideal) (Pool.pooledOf (shapeCast Cert.KernelIdeal.S2000000x16 E Cert.KernelIdeal.Facts₀.shapeCasts_S1000000x32_S2000000x16)
        (Pool.halvesList I)) W
      = Host.dotGeneral dot_S16384x32_S32x128_S16384x128_1_0_0_1_n_n none (summed I E) W := by
  have hs : Pool.pooledOf (shapeCast Cert.KernelIdeal.S2000000x16 E Cert.KernelIdeal.Facts₀.shapeCasts_S1000000x32_S2000000x16) (Pool.halvesList I)
      = summed I E := funext fun x => (Pool.pooled_sum I E hI x).trans (summed_apply I E hI x).symm
  rw [hs]
  exact funext fun x => (projected_apply _ _ x).trans (whole_apply _ _ x).symm

end Cert.Proof.Plain

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Product

@[expose] public section

noncomputable section

namespace Cert.Proof

open Idealize.ShloMosaic Idealize.SL.Sem

/-- The array the ideal kernel ends with on device `d` is the bags' sums times the weight. -/
theorem result_of (m : (ℓ : Loc Cert.KernelIdeal.nD Cert.KernelIdeal.τ Cert.KernelIdeal.sig) → Buf (Elt Ideal) ℓ) (d : Dev Cert.KernelIdeal.nD)
    (hI : Pool.InRange (m ((SparseCore.T d : Thread Cert.KernelIdeal.nD Cert.KernelIdeal.τ).loc Cert.KernelIdeal.main_arg0))) :
    Pool.resultOf m (Pool.pooledArr m) d
      = Host.dotGeneral Cert.ReferenceIdeal.dot_S16384x32_S32x128_S16384x128_1_0_0_1_n_n none
          (Plain.summed (m ((SparseCore.T d : Thread Cert.KernelIdeal.nD Cert.KernelIdeal.τ).loc Cert.KernelIdeal.main_arg0))
            (m ((SparseCore.T d : Thread Cert.KernelIdeal.nD Cert.KernelIdeal.τ).loc Cert.KernelIdeal.main_arg1)))
          (transpose Cert.ReferenceIdeal.S32x128 [1, 0]
            (m ((SparseCore.T d : Thread Cert.KernelIdeal.nD Cert.KernelIdeal.τ).loc Cert.KernelIdeal.main_arg2))
            Cert.ReferenceIdeal.Gen.transposes_S128x32_S32x128_1_0 : FVec Ideal Cert.ReferenceIdeal.S32x128 .f32) := by
  unfold Pool.resultOf Pool.pooledArr
  rw [Pool.prepared_rows, Pool.prepared_list]
  exact Plain.result_eq _ _ _ hI

/-- `Cert.algebraic_KernelIdeal_ReferenceIdeal`: the shared value is the array the kernel's run names; the reference's
    term is the same bags' sums times the same weight. -/
theorem algebraic : Cert.algebraic_KernelIdeal_ReferenceIdeal := by
  intro m ρ m' ρ' hpre hagree
  have hI := fun d => Pool.inRange_of_fn _ _ _ (hpre d)
  refine ⟨fun c => Pool.resultOf m (Pool.pooledArr m) c,
    (θ_run Cert.KernelIdeal.defs _ _).mono (fun _ h => h.1) (run_in_range (F := Ideal) m ρ hI), ?_⟩
  refine (θ_run Cert.ReferenceIdeal.defs _ _).mono (fun r h c => ⟨(h c).1.trans ?_, (h c).2⟩)
    (Cert.ReferenceIdeal.Value.run (F := Ideal) m' ρ')
  rw [(hagree c).1, (hagree c).2.1, (hagree c).2.2]
  exact (result_of m c (hI c)).symm

/-- `Cert.Claim`: the frames, the preservation, which no rewrite makes more than `True`, and the equality. -/
theorem claim : Cert.Claim :=
  ⟨Cert.Kernel.Gen.facts, Cert.KernelIdeal.Gen.facts, Cert.ReferenceIdeal.Gen.facts, Cert.Pre_in_range.Gen.facts,
    frame_kernel, frame_ideal, frame_reference, trivial, algebraic⟩

end Cert.Proof

end
